-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_a_betas_not_opposite_infinities [hPre_a_betas_not_opposite_infinities : Cert.Pre_a_betas_not_opposite_infinities.Facts] (m : (ℓ : Loc Cert.KernelIdeal.nD Cert.KernelIdeal.τ Cert.KernelIdeal.sig) → Buf (Elt Ideal) ℓ) : Prop :=
  ∀ c : Dev Cert.KernelIdeal.nD,
    (Cert.Pre_a_betas_not_opposite_infinities.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_a_betas_not_opposite_infinities [hPre_a_betas_not_opposite_infinities : Cert.Pre_a_betas_not_opposite_infinities.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_a_betas_not_opposite_infinities.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_a_betas_not_opposite_infinities [hKernelIdeal : Cert.KernelIdeal.Facts] [hPre_a_betas_not_opposite_infinities : Cert.Pre_a_betas_not_opposite_infinities.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_a_betas_not_opposite_infinities m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_a_betas_not_opposite_infinities [hReferenceIdeal : Cert.ReferenceIdeal.Facts] [hPre_a_betas_not_opposite_infinities : Cert.Pre_a_betas_not_opposite_infinities.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_a_betas_not_opposite_infinities m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  IdealRules.named_const.Statement Cert.KernelIdeal.κ "inv_npix" .f32 0x37A72F05#32 ((1 / 50176 : ℝ) : EReal)

def algebraic_KernelIdeal_ReferenceIdeal_pre_a_betas_not_opposite_infinities [hKernelIdeal : Cert.KernelIdeal.Facts] [hReferenceIdeal : Cert.ReferenceIdeal.Facts] [hPre_a_betas_not_opposite_infinities : Cert.Pre_a_betas_not_opposite_infinities.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_a_betas_not_opposite_infinities m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v19)) (v1 : (c : Dev Cert.KernelIdeal.nD) → Buf (Elt Ideal) ((c.tc : Thread Cert.KernelIdeal.nD Cert.KernelIdeal.τ).loc Cert.KernelIdeal.main_v20)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v19) = v0 c
          ∧ r.2.mem ((c.tc : Thread Cert.KernelIdeal.nD Cert.KernelIdeal.τ).loc Cert.KernelIdeal.main_v20) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v138) = v0 c
          ∧ r.2.mem ((c.tc : Thread Cert.ReferenceIdeal.nD Cert.ReferenceIdeal.τ).loc Cert.ReferenceIdeal.main_v59) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_a_betas_not_opposite_infinities : Cert.Pre_a_betas_not_opposite_infinities.Facts),
    quiescent_Kernel (hKernel := hKernel)
    ∧ quiescent_KernelIdeal (hKernelIdeal := hKernelIdeal)
    ∧ quiescent_KernelIdeal_pre_a_betas_not_opposite_infinities (hKernelIdeal := hKernelIdeal) (hPre_a_betas_not_opposite_infinities := hPre_a_betas_not_opposite_infinities)
    ∧ quiescent_ReferenceIdeal (hReferenceIdeal := hReferenceIdeal)
    ∧ quiescent_ReferenceIdeal_pre_a_betas_not_opposite_infinities (hReferenceIdeal := hReferenceIdeal) (hPre_a_betas_not_opposite_infinities := hPre_a_betas_not_opposite_infinities)
    ∧ preserves_Kernel_KernelIdeal
    ∧ algebraic_KernelIdeal_ReferenceIdeal_pre_a_betas_not_opposite_infinities (hKernelIdeal := hKernelIdeal) (hReferenceIdeal := hReferenceIdeal) (hPre_a_betas_not_opposite_infinities := hPre_a_betas_not_opposite_infinities)
-- ==== Pre_a_betas_not_opposite_infinities.lean ====
abbrev S2x96x224x224 : Shape := ⟨4, ![2, 96, 224, 224]⟩
abbrev S1x96x384x3x3 : Shape := ⟨5, ![1, 96, 384, 3, 3]⟩
abbrev S4 : Shape := ⟨1, ![4]⟩
abbrev S96x8 : Shape := ⟨2, ![96, 8]⟩
abbrev S1 : Shape := ⟨1, ![1]⟩
abbrev S_ : Shape := ⟨0, ![]⟩

class Facts : Prop where
  slices_S4_S1_1 : S4.Slices ![1] S1
  shapeCasts_S1_S_ : S1.ShapeCasts S_
  slices_S4_S1_2 : S4.Slices ![2] S1

variable [Facts]

def fn {F : FTy → Type} [FloatOps F] (main_arg0 : FVec F S2x96x224x224 .f32) (main_arg1 : FVec F S1x96x384x3x3 .f32) (main_arg2 : FVec F S4 .f32) (main_arg3 : FVec F S96x8 .f32) : IVec S_ 1 :=
  let main_v0 : FVec F S1 .f32 := (extractStridedSlice S1 ![1] · slices_S4_S1_1) main_arg2
  let main_v1 : FVec F S_ .f32 := shapeCast S_ main_v0 shapeCasts_S1_S_
  let main_v2 : FVec F S1 .f32 := (extractStridedSlice S1 ![2] · slices_S4_S1_2) main_arg2
  let main_v3 : FVec F S_ .f32 := shapeCast S_ main_v2 shapeCasts_S1_S_
  let main_v4 : FVec F S_ .f32 := Host.absf main_v1
  let main_cst : FVec F S_ .f32 := constant S_ .f32 0x7F800000#32
  let main_v5 : IVec S_ 1 := cmpf .olt main_v4 main_cst
  let main_v6 : FVec F S_ .f32 := Host.absf main_v3
  let main_cst_0 : FVec F S_ .f32 := constant S_ .f32 0x7F800000#32
  let main_v7 : IVec S_ 1 := cmpf .olt main_v6 main_cst_0
  let main_v8 : IVec S_ 1 := ori main_v5 main_v7
  let main_v9 : IVec S_ 1 := cmpf .oeq main_v1 main_v3
  let main_v10 : IVec S_ 1 := ori main_v8 main_v9
  main_v10
-- ==== Kernel.lean ====
abbrev S2x96x224x224 : Shape := ⟨4, ![2, 96, 224, 224]⟩
abbrev S1x96x384x3x3 : Shape := ⟨5, ![1, 96, 384, 3, 3]⟩
abbrev S4 : Shape := ⟨1, ![4]⟩
abbrev S96x8 : Shape := ⟨2, ![96, 8]⟩
abbrev S2x96x50176 : Shape := ⟨3, ![2, 96, 50176]⟩
abbrev S192x50176 : Shape := ⟨2, ![192, 50176]⟩
abbrev S192x1 : Shape := ⟨2, ![192, 1]⟩
abbrev S192x3584 : Shape := ⟨2, ![192, 3584]⟩
abbrev S192 : Shape := ⟨1, ![192]⟩
abbrev S2x96 : Shape := ⟨2, ![2, 96]⟩
abbrev S2x1 : Shape := ⟨2, ![2, 1]⟩
abbrev S1x1 : Shape := ⟨2, ![1, 1]⟩
abbrev S2x8 : Shape := ⟨2, ![2, 8]⟩
abbrev S2 : Shape := ⟨1, ![2]⟩
abbrev S8 : Shape := ⟨1, ![8]⟩
abbrev S1x8 : Shape := ⟨2, ![1, 8]⟩
abbrev S1 : Shape := ⟨1, ![1]⟩
abbrev S96x384x3x3 : Shape := ⟨4, ![96, 384, 3, 3]⟩
abbrev S3x3x96x384 : Shape := ⟨4, ![3, 3, 96, 384]⟩
abbrev S_ : Shape := ⟨0, ![]⟩
abbrev S1x2 : Shape := ⟨2, ![1, 2]⟩
abbrev S1x96x896 : Shape := ⟨3, ![1, 96, 896]⟩
abbrev S1x96x6272 : Shape := ⟨3, ![1, 96, 6272]⟩
abbrev S96x896 : Shape := ⟨2, ![96, 896]⟩
abbrev S96x224 : Shape := ⟨2, ![96, 224]⟩
abbrev S96x6272 : Shape := ⟨2, ![96, 6272]⟩
abbrev S96x6720 : Shape := ⟨2, ![96, 6720]⟩
abbrev S288x6720 : Shape := ⟨2, ![288, 6720]⟩
abbrev S1x6720 : Shape := ⟨2, ![1, 6720]⟩
abbrev S384x6720 : Shape := ⟨2, ![384, 6720]⟩
abbrev S384x1 : Shape := ⟨2, ![384, 1]⟩
abbrev S384x6719 : Shape := ⟨2, ![384, 6719]⟩
abbrev S1x1x96x384 : Shape := ⟨4, ![1, 1, 96, 384]⟩
abbrev S96x384 : Shape := ⟨2, ![96, 384]⟩
abbrev S384x6272 : Shape := ⟨2, ![384, 6272]⟩

abbrev nBuf : Space → Nat
  | .hbm => 28
  | .vmem => 18
  | .smem => 0
  | _ => 0

abbrev bufTy : (tb : Table) → Fin (tcTables nBuf tb) → BufTy
  | .hbm, ⟨0, _⟩ => ⟨S2x96x224x224, .f32⟩
  | .hbm, ⟨1, _⟩ => ⟨S1x96x384x3x3, .f32⟩
  | .hbm, ⟨2, _⟩ => ⟨S4, .f32⟩
  | .hbm, ⟨3, _⟩ => ⟨S96x8, .f32⟩
  | .hbm, ⟨4, _⟩ => ⟨S2x96x50176, .f32⟩
  | .hbm, ⟨5, _⟩ => ⟨S192x50176, .f32⟩
  | .hbm, ⟨6, _⟩ => ⟨S192x1, .f32⟩
  | .hbm, ⟨7, _⟩ => ⟨S2x96, .f32⟩
  | .hbm, ⟨8, _⟩ => ⟨S2x1, .f32⟩
  | .hbm, ⟨9, _⟩ => ⟨S1x1, .f32⟩
  | .hbm, ⟨10, _⟩ => ⟨S96x384x3x3, .f32⟩
  | .hbm, ⟨11, _⟩ => ⟨S3x3x96x384, .f32⟩
  | .hbm, ⟨12, _⟩ => ⟨S3x3x96x384, .bf16⟩
  | .hbm, ⟨13, _⟩ => ⟨S1, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S1, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S1, .f32⟩
  | .hbm, ⟨22, _⟩ => ⟨S1, .f32⟩
  | .hbm, ⟨23, _⟩ => ⟨S2, .f32⟩
  | .hbm, ⟨24, _⟩ => ⟨S1x2, .f32⟩
  | .hbm, ⟨25, _⟩ => ⟨S2x96x50176, .f32⟩
  | .hbm, ⟨26, _⟩ => ⟨S2x96x224x224, .f32⟩
  | .hbm, ⟨27, _⟩ => ⟨S_, .f32⟩
  | .local _ .vmem, ⟨0, _⟩ => ⟨S192x3584, .f32⟩
  | .local _ .vmem, ⟨1, _⟩ => ⟨S192x3584, .f32⟩
  | .local _ .vmem, ⟨2, _⟩ => ⟨S192x1, .f32⟩
  | .local _ .vmem, ⟨3, _⟩ => ⟨S2x96, .f32⟩
  | .local _ .vmem, ⟨4, _⟩ => ⟨S96x8, .f32⟩
  | .local _ .vmem, ⟨5, _⟩ => ⟨S2x1, .f32⟩
  | .local _ .vmem, ⟨6, _⟩ => ⟨S1x1, .f32⟩
  | .local _ .vmem, ⟨7, _⟩ => ⟨S1x2, .f32⟩
  | .local _ .vmem, ⟨8, _⟩ => ⟨S2x1, .f32⟩
  | .local _ .vmem, ⟨9, _⟩ => ⟨S1x96x896, .f32⟩
  | .local _ .vmem, ⟨10, _⟩ => ⟨S1x96x896, .f32⟩
  | .local _ .vmem, ⟨11, _⟩ => ⟨S1x96x6272, .f32⟩
  | .local _ .vmem, ⟨12, _⟩ => ⟨S1x96x6272, .f32⟩
  | .local _ .vmem, ⟨13, _⟩ => ⟨S1x96x896, .f32⟩
  | .local _ .vmem, ⟨14, _⟩ => ⟨S1x96x896, .f32⟩
  | .local _ .vmem, ⟨15, _⟩ => ⟨S3x3x96x384, .bf16⟩
  | .local _ .vmem, ⟨16, _⟩ => ⟨S1x96x6272, .f32⟩
  | .local _ .vmem, ⟨17, _⟩ => ⟨S1x96x6272, .f32⟩
  | _, _ => ⟨S2x96x224x224, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst_0 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc1_stg0_0 : Ref sig .tc := ⟨.vmem, 3, rfl⟩
abbrev cc1_stg1_0 : Ref sig .tc := ⟨.vmem, 4, rfl⟩
abbrev cc1_stg2_0 : Ref sig .tc := ⟨.vmem, 5, rfl⟩
abbrev cc1_stg3_0 : Ref sig .tc := ⟨.vmem, 6, rfl⟩
abbrev cc2_stg0_0 : Ref sig .tc := ⟨.vmem, 7, rfl⟩
abbrev cc2_stg1_0 : Ref sig .tc := ⟨.vmem, 8, rfl⟩
abbrev cc2_stg2_0 : Ref sig .tc := ⟨.vmem, 9, rfl⟩
abbrev cc2_stg2_1 : Ref sig .tc := ⟨.vmem, 10, rfl⟩
abbrev cc2_stg3_0 : Ref sig .tc := ⟨.vmem, 11, rfl⟩
abbrev cc2_stg3_1 : Ref sig .tc := ⟨.vmem, 12, rfl⟩
abbrev cc2_stg4_0 : Ref sig .tc := ⟨.vmem, 13, rfl⟩
abbrev cc2_stg4_1 : Ref sig .tc := ⟨.vmem, 14, rfl⟩
abbrev cc2_stg5_0 : Ref sig .tc := ⟨.vmem, 15, rfl⟩
abbrev cc2_stg6_0 : Ref sig .tc := ⟨.vmem, 16, rfl⟩
abbrev cc2_stg6_1 : Ref sig .tc := ⟨.vmem, 17, rfl⟩
abbrev cc0_sem0_0 : DmaSem sig := 0
abbrev cc0_sem0_1 : DmaSem sig := 1
abbrev cc0_sem1_0 : DmaSem sig := 2
abbrev cc1_sem0_0 : DmaSem sig := 3
abbrev cc1_sem1_0 : DmaSem sig := 4
abbrev cc1_sem2_0 : DmaSem sig := 5
abbrev cc1_sem3_0 : DmaSem sig := 6
abbrev cc2_sem0_0 : DmaSem sig := 7
abbrev cc2_sem1_0 : DmaSem sig := 8
abbrev cc2_sem2_0 : DmaSem sig := 9
abbrev cc2_sem2_1 : DmaSem sig := 10
abbrev cc2_sem3_0 : DmaSem sig := 11
abbrev cc2_sem3_1 : DmaSem sig := 12
abbrev cc2_sem4_0 : DmaSem sig := 13
abbrev cc2_sem4_1 : DmaSem sig := 14
abbrev cc2_sem5_0 : DmaSem sig := 15
abbrev cc2_sem6_0 : DmaSem sig := 16
abbrev cc2_sem6_1 : DmaSem sig := 17

abbrev nD : Nat := 1
abbrev τ : Topo := Topo.v7x

variable {F : FTy → Type} [FloatOps F]

abbrev grid0 : Pipeline.Grid := ⟨1, ![14], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S192x3584 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S192x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev grid1 : Pipeline.Grid := .none

abbrev stage1_0 : Fin 1 → Memref sig .tc .vmem S2x96 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))

abbrev stage1_1 : Fin 1 → Memref sig .tc .vmem S96x8 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))

abbrev stage1_2 : Fin 1 → Memref sig .tc .vmem S2x1 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))

abbrev stage1_3 : Fin 1 → Memref sig .tc .vmem S1x1 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))

abbrev grid2 : Pipeline.Grid := ⟨2, ![2, 8], ![false, false]⟩

def k2_off1 (i : grid2.Coords) : Fin 2 → Nat :=
  let arg0 : BitVec 32 := BitVec.ofNat 32 (i 0).val
  let v123 : Index := Scalar.indexCast arg0
  let c0_65 : Index := 0#32
  ![v123.toNat, 0]
def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 3 → Nat :=
  let arg0 : BitVec 32 := BitVec.ofNat 32 (i 0).val
  let arg1 : BitVec 32 := BitVec.ofNat 32 (i 1).val
  let c7_i32 : BitVec 32 := 7#32
  let v0 : BitVec 32 := Scalar.muli arg1 c7_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![arg0.toNat, c0_i32_0.toNat, v2.toNat]

def cc2_transform_3 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc2_transform_4 (i : grid2.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c7_i32 : BitVec 32 := 7#32
  let v1 : BitVec 32 := Scalar.muli v0 c7_i32
  let c55_i32 : BitVec 32 := 55#32
  let v2 : BitVec 32 := Scalar.minsi v1 c55_i32
  let c0_i32 : BitVec 32 := 0#32
  let c0_i32_0 : BitVec 32 := 0#32
  ![arg0.toNat, c0_i32.toNat, v2.toNat]

def cc2_transform_5 (i : grid2.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc2_transform_6 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage2_0 : Fin 1 → Memref sig .tc .vmem S1x2 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![false, false]

abbrev stage2_1 : Fin 1 → Memref sig .tc .vmem S2x1 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false, false]

abbrev stage2_2 : Fin 2 → Memref sig .tc .vmem S1x96x896 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true]

abbrev stage2_3 : Fin 2 → Memref sig .tc .vmem S1x96x6272 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, true]

abbrev stage2_4 : Fin 2 → Memref sig .tc .vmem S1x96x896 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true, true]

abbrev stage2_5 : Fin 1 → Memref sig .tc .vmem S3x3x96x384 .bf16 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false, false]

abbrev stage2_6 : Fin 2 → Memref sig .tc .vmem S1x96x6272 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true, true]
-- ==== KernelIdeal.lean ====
variable {F : FTy → Type} [FloatOps F] [Named F]
def κ : String → Option EReal := fun
  | "inv_npix" => some ((1 / 50176 : ℝ) : EReal)
  | _ => none
-- ==== ReferenceIdeal.lean ====
abbrev S2x96x224x224 : Shape := ⟨4, ![2, 96, 224, 224]⟩
abbrev S1x96x384x3x3 : Shape := ⟨5, ![1, 96, 384, 3, 3]⟩
abbrev S4 : Shape := ⟨1, ![4]⟩
abbrev S96x8 : Shape := ⟨2, ![96, 8]⟩
abbrev S_ : Shape := ⟨0, ![]⟩
abbrev S2x96 : Shape := ⟨2, ![2, 96]⟩
abbrev S2x8 : Shape := ⟨2, ![2, 8]⟩
abbrev S2 : Shape := ⟨1, ![2]⟩
abbrev S2x1 : Shape := ⟨2, ![2, 1]⟩
abbrev S2x3 : Shape := ⟨2, ![2, 3]⟩
abbrev S2x2 : Shape := ⟨2, ![2, 2]⟩
abbrev S2x2x1 : Shape := ⟨3, ![2, 2, 1]⟩
abbrev S2x2x2 : Shape := ⟨3, ![2, 2, 2]⟩
abbrev S8 : Shape := ⟨1, ![8]⟩
abbrev S1 : Shape := ⟨1, ![1]⟩
abbrev S2x384x224x224 : Shape := ⟨4, ![2, 384, 224, 224]⟩
abbrev S96x384x3x3 : Shape := ⟨4, ![96, 384, 3, 3]⟩
abbrev S2x384x226x226 : Shape := ⟨4, ![2, 384, 226, 226]⟩
abbrev S96x384x1x1 : Shape := ⟨4, ![96, 384, 1, 1]⟩
abbrev S96x384 : Shape := ⟨2, ![96, 384]⟩
abbrev S2x224x224x96 : Shape := ⟨4, ![2, 224, 224, 96]⟩
abbrev S2x1x1x1 : Shape := ⟨4, ![2, 1, 1, 1]⟩

abbrev nBuf : Space → Nat
  | .hbm => 222
  | .vmem => 0
  | .smem => 0
  | _ => 0

abbrev hbmTy0_0 (i : Nat) : BufTy := match i % 128 with
  | 0 => ⟨S2x96x224x224, .f32⟩
  | 1 => ⟨S1x96x384x3x3, .f32⟩
  | 2 => ⟨S4, .f32⟩
  | 3 => ⟨S96x8, .f32⟩
  | 4 => ⟨S_, .f32⟩
  | 5 => ⟨S2x96, .f32⟩
  | 6 => ⟨S_, .f32⟩
  | 7 => ⟨S2x96, .f32⟩
  | 8 => ⟨S2x96, .f32⟩
  | 9 => ⟨S2x8, .f32⟩
  | 10 => ⟨S_, .f32⟩
  | 11 => ⟨S2, .f32⟩
  | 12 => ⟨S_, .f32⟩
  | 13 => ⟨S2, .f32⟩
  | 14 => ⟨S2, .f32⟩
  | 15 => ⟨S2x1, .f32⟩
  | 16 => ⟨S2x8, .f32⟩
  | 17 => ⟨S2x8, .f32⟩
  | 18 => ⟨S2x8, .f32⟩
  | 19 => ⟨S_, .f32⟩
  | 20 => ⟨S2, .f32⟩
  | 21 => ⟨S2x1, .f32⟩
  | 22 => ⟨S2x8, .f32⟩
  | 23 => ⟨S2x8, .f32⟩
  | 24 => ⟨S2x3, .f32⟩
  | 25 => ⟨S2x3, .i32⟩
  | 26 => ⟨S2x2, .f32⟩
  | 27 => ⟨S2x2, .i32⟩
  | 28 => ⟨S_, .f32⟩
  | 29 => ⟨S2, .f32⟩
  | 30 => ⟨S2x1, .f32⟩
  | 31 => ⟨S_, .f32⟩
  | 32 => ⟨S2x1, .f32⟩
  | 33 => ⟨S2x1, .f32⟩
  | 34 => ⟨S2x2, .f32⟩
  | 35 => ⟨S2x2, .f32⟩
  | 36 => ⟨S_, .f32⟩
  | 37 => ⟨S2x8, .f32⟩
  | 38 => ⟨S2, .i32⟩
  | 39 => ⟨S2x1, .i32⟩
  | 40 => ⟨S_, .i32⟩
  | 41 => ⟨S2x1, .i32⟩
  | 42 => ⟨S2x1, .i1⟩
  | 43 => ⟨S_, .i32⟩
  | 44 => ⟨S2x1, .i32⟩
  | 45 => ⟨S2x1, .i32⟩
  | 46 => ⟨S2x1, .i32⟩
  | 47 => ⟨S_, .i32⟩
  | 48 => ⟨S2x2, .i32⟩
  | 49 => ⟨S2x2, .i1⟩
  | 50 => ⟨S_, .i32⟩
  | 51 => ⟨S2x2, .i32⟩
  | 52 => ⟨S2x2, .i32⟩
  | 53 => ⟨S2x2, .i32⟩
  | 54 => ⟨S2x2, .i32⟩
  | 55 => ⟨S2x2x1, .i32⟩
  | 56 => ⟨S2x2x1, .i32⟩
  | 57 => ⟨S2x2x2, .i32⟩
  | 58 => ⟨S2x8, .f32⟩
  | 59 => ⟨S_, .f32⟩
  | 60 => ⟨S2x8, .f32⟩
  | 61 => ⟨S2x8, .i1⟩
  | 62 => ⟨S2x8, .f32⟩
  | 63 => ⟨S_, .f32⟩
  | 64 => ⟨S8, .f32⟩
  | 65 => ⟨S_, .f32⟩
  | 66 => ⟨S8, .f32⟩
  | 67 => ⟨S_, .i32⟩
  | 68 => ⟨S_, .f32⟩
  | 69 => ⟨S_, .f32⟩
  | 70 => ⟨S1, .f32⟩
  | 71 => ⟨S_, .f32⟩
  | 72 => ⟨S1, .f32⟩
  | 73 => ⟨S1, .f32⟩
  | 74 => ⟨S8, .f32⟩
  | 75 => ⟨S8, .f32⟩
  | 76 => ⟨S8, .f32⟩
  | 77 => ⟨S_, .f32⟩
  | 78 => ⟨S_, .f32⟩
  | 79 => ⟨S_, .f32⟩
  | 80 => ⟨S_, .f32⟩
  | 81 => ⟨S_, .f32⟩
  | 82 => ⟨S_, .f32⟩
  | 83 => ⟨S_, .f32⟩
  | 84 => ⟨S_, .i1⟩
  | 85 => ⟨S_, .f32⟩
  | 86 => ⟨S_, .f32⟩
  | 87 => ⟨S_, .f32⟩
  | 88 => ⟨S_, .f32⟩
  | 89 => ⟨S_, .f32⟩
  | 90 => ⟨S_, .f32⟩
  | 91 => ⟨S_, .f32⟩
  | 92 => ⟨S_, .f32⟩
  | 93 => ⟨S_, .f32⟩
  | 94 => ⟨S_, .f32⟩
  | 95 => ⟨S_, .f32⟩
  | 96 => ⟨S_, .i32⟩
  | 97 => ⟨S_, .f32⟩
  | 98 => ⟨S_, .f32⟩
  | 99 => ⟨S1, .f32⟩
  | 100 => ⟨S_, .f32⟩
  | 101 => ⟨S1, .f32⟩
  | 102 => ⟨S1, .f32⟩
  | 103 => ⟨S8, .f32⟩
  | 104 => ⟨S8, .f32⟩
  | 105 => ⟨S8, .f32⟩
  | 106 => ⟨S_, .f32⟩
  | 107 => ⟨S_, .f32⟩
  | 108 => ⟨S_, .f32⟩
  | 109 => ⟨S_, .f32⟩
  | 110 => ⟨S_, .f32⟩
  | 111 => ⟨S_, .f32⟩
  | 112 => ⟨S_, .f32⟩
  | 113 => ⟨S_, .i1⟩
  | 114 => ⟨S_, .f32⟩
  | 115 => ⟨S_, .f32⟩
  | 116 => ⟨S_, .f32⟩
  | 117 => ⟨S_, .f32⟩
  | 118 => ⟨S_, .f32⟩
  | 119 => ⟨S_, .f32⟩
  | 120 => ⟨S_, .f32⟩
  | 121 => ⟨S_, .f32⟩
  | 122 => ⟨S_, .f32⟩
  | 123 => ⟨S_, .f32⟩
  | 124 => ⟨S_, .f32⟩
  | 125 => ⟨S_, .f32⟩
  | 126 => ⟨S_, .f32⟩
  | 127 => ⟨S_, .f32⟩
  | _ => ⟨S2x96x224x224, .f32⟩

abbrev hbmTy0_1 (i : Nat) : BufTy := match i % 128 with
  | 0 => ⟨S2x96x224x224, .f32⟩
  | 1 => ⟨S_, .f32⟩
  | 2 => ⟨S2x96x224x224, .f32⟩
  | 3 => ⟨S2x96x224x224, .f32⟩
  | 4 => ⟨S1, .f32⟩
  | 5 => ⟨S_, .f32⟩
  | 6 => ⟨S_, .f32⟩
  | 7 => ⟨S_, .f32⟩
  | 8 => ⟨S2x96x224x224, .f32⟩
  | 9 => ⟨S2x96x224x224, .f32⟩
  | 10 => ⟨S2x96x224x224, .f32⟩
  | 11 => ⟨S2x96x224x224, .f32⟩
  | 12 => ⟨S1, .f32⟩
  | 13 => ⟨S_, .f32⟩
  | 14 => ⟨S_, .f32⟩
  | 15 => ⟨S_, .f32⟩
  | 16 => ⟨S2x96x224x224, .f32⟩
  | 17 => ⟨S2x96x224x224, .f32⟩
  | 18 => ⟨S2x96x224x224, .f32⟩
  | 19 => ⟨S2x384x224x224, .f32⟩
  | 20 => ⟨S2x384x224x224, .f32⟩
  | 21 => ⟨S2x384x224x224, .f32⟩
  | 22 => ⟨S_, .f32⟩
  | 23 => ⟨S2x384x224x224, .f32⟩
  | 24 => ⟨S2x384x224x224, .f32⟩
  | 25 => ⟨S_, .f32⟩
  | 26 => ⟨S2x384x224x224, .f32⟩
  | 27 => ⟨S2x384x224x224, .f32⟩
  | 28 => ⟨S2x384x224x224, .f32⟩
  | 29 => ⟨S96x384x3x3, .f32⟩
  | 30 => ⟨S_, .i32⟩
  | 31 => ⟨S_, .f32⟩
  | 32 => ⟨S2x384x226x226, .f32⟩
  | 33 => ⟨S2x384x224x224, .f32⟩
  | 34 => ⟨S96x384x1x1, .f32⟩
  | 35 => ⟨S96x384, .f32⟩
  | 36 => ⟨S2x224x224x96, .f32⟩
  | 37 => ⟨S2x96x224x224, .f32⟩
  | 38 => ⟨S_, .f32⟩
  | 39 => ⟨S2x96x224x224, .f32⟩
  | 40 => ⟨S2x96x224x224, .f32⟩
  | 41 => ⟨S2x384x224x224, .f32⟩
  | 42 => ⟨S96x384x1x1, .f32⟩
  | 43 => ⟨S96x384, .f32⟩
  | 44 => ⟨S2x224x224x96, .f32⟩
  | 45 => ⟨S2x96x224x224, .f32⟩
  | 46 => ⟨S2x96x224x224, .f32⟩
  | 47 => ⟨S2x384x224x224, .f32⟩
  | 48 => ⟨S96x384x1x1, .f32⟩
  | 49 => ⟨S96x384, .f32⟩
  | 50 => ⟨S2x224x224x96, .f32⟩
  | 51 => ⟨S2x96x224x224, .f32⟩
  | 52 => ⟨S2x96x224x224, .f32⟩
  | 53 => ⟨S2x384x224x224, .f32⟩
  | 54 => ⟨S96x384x1x1, .f32⟩
  | 55 => ⟨S96x384, .f32⟩
  | 56 => ⟨S2x224x224x96, .f32⟩
  | 57 => ⟨S2x96x224x224, .f32⟩
  | 58 => ⟨S2x96x224x224, .f32⟩
  | 59 => ⟨S2x384x224x224, .f32⟩
  | 60 => ⟨S96x384x1x1, .f32⟩
  | 61 => ⟨S96x384, .f32⟩
  | 62 => ⟨S2x224x224x96, .f32⟩
  | 63 => ⟨S2x96x224x224, .f32⟩
  | 64 => ⟨S2x96x224x224, .f32⟩
  | 65 => ⟨S2x384x224x224, .f32⟩
  | 66 => ⟨S96x384x1x1, .f32⟩
  | 67 => ⟨S96x384, .f32⟩
  | 68 => ⟨S2x224x224x96, .f32⟩
  | 69 => ⟨S2x96x224x224, .f32⟩
  | 70 => ⟨S2x96x224x224, .f32⟩
  | 71 => ⟨S2x384x224x224, .f32⟩
  | 72 => ⟨S96x384x1x1, .f32⟩
  | 73 => ⟨S96x384, .f32⟩
  | 74 => ⟨S2x224x224x96, .f32⟩
  | 75 => ⟨S2x96x224x224, .f32⟩
  | 76 => ⟨S2x96x224x224, .f32⟩
  | 77 => ⟨S2x384x224x224, .f32⟩
  | 78 => ⟨S96x384x1x1, .f32⟩
  | 79 => ⟨S96x384, .f32⟩
  | 80 => ⟨S2x224x224x96, .f32⟩
  | 81 => ⟨S2x96x224x224, .f32⟩
  | 82 => ⟨S2x96x224x224, .f32⟩
  | 83 => ⟨S2x384x224x224, .f32⟩
  | 84 => ⟨S96x384x1x1, .f32⟩
  | 85 => ⟨S96x384, .f32⟩
  | 86 => ⟨S2x224x224x96, .f32⟩
  | 87 => ⟨S2x96x224x224, .f32⟩
  | 88 => ⟨S2x96x224x224, .f32⟩
  | 89 => ⟨S_, .f32⟩
  | 90 => ⟨S2, .f32⟩
  | 91 => ⟨S2x1x1x1, .f32⟩
  | 92 => ⟨S2x96x224x224, .f32⟩
  | 93 => ⟨S2x96x224x224, .f32⟩
  | _ => ⟨S2x96x224x224, .f32⟩

abbrev hbmTy (i : Nat) : BufTy := match i / 128 with
  | 0 => hbmTy0_0 i
  | 1 => hbmTy0_1 i
  | _ => ⟨S2x96x224x224, .f32⟩

abbrev bufTy : (tb : Table) → Fin (tcTables nBuf tb) → BufTy
  | .hbm, ⟨i, _⟩ => hbmTy i
  | _, _ => ⟨S2x96x224x224, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_cst_2 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_values : Ref sig .tc := ⟨.hbm, 24, rfl⟩
abbrev main_indices : Ref sig .tc := ⟨.hbm, 25, rfl⟩
abbrev main_v15 : Ref sig .tc := ⟨.hbm, 26, rfl⟩
abbrev main_v16 : Ref sig .tc := ⟨.hbm, 27, rfl⟩
abbrev main_cst_4 : Ref sig .tc := ⟨.hbm, 28, rfl⟩
abbrev main_v17 : Ref sig .tc := ⟨.hbm, 29, rfl⟩
abbrev main_v18 : Ref sig .tc := ⟨.hbm, 30, rfl⟩
abbrev main_cst_5 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_6 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_c : Ref sig .tc := ⟨.hbm, 40, rfl⟩
abbrev main_v26 : Ref sig .tc := ⟨.hbm, 41, rfl⟩
abbrev main_v27 : Ref sig .tc := ⟨.hbm, 42, rfl⟩
abbrev main_c_7 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_8 : Ref sig .tc := ⟨.hbm, 47, rfl⟩
abbrev main_v31 : Ref sig .tc := ⟨.hbm, 48, rfl⟩
abbrev main_v32 : Ref sig .tc := ⟨.hbm, 49, rfl⟩
abbrev main_c_9 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_10 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_cst_11 : Ref sig .tc := ⟨.hbm, 63, rfl⟩
abbrev main_v44 : Ref sig .tc := ⟨.hbm, 64, rfl⟩
abbrev main_cst_12 : Ref sig .tc := ⟨.hbm, 65, rfl⟩
abbrev main_v45 : Ref sig .tc := ⟨.hbm, 66, rfl⟩
abbrev main_c_13 : Ref sig .tc := ⟨.hbm, 67, rfl⟩
abbrev main_call0_cst : Ref sig .tc := ⟨.hbm, 68, rfl⟩
abbrev main_call0_v0 : Ref sig .tc := ⟨.hbm, 69, rfl⟩
abbrev main_call0_v1 : Ref sig .tc := ⟨.hbm, 70, rfl⟩
abbrev main_call0_cst_0 : Ref sig .tc := ⟨.hbm, 71, rfl⟩
abbrev main_call0_v2 : Ref sig .tc := ⟨.hbm, 72, rfl⟩
abbrev main_call0_v3 : Ref sig .tc := ⟨.hbm, 73, rfl⟩
abbrev main_call0_v4 : Ref sig .tc := ⟨.hbm, 74, rfl⟩
abbrev main_call0_v5 : Ref sig .tc := ⟨.hbm, 75, rfl⟩
abbrev main_call0_v6 : Ref sig .tc := ⟨.hbm, 76, rfl⟩
abbrev main_call0_v7 : Ref sig .tc := ⟨.hbm, 77, rfl⟩
abbrev main_call0_cst_1 : Ref sig .tc := ⟨.hbm, 78, rfl⟩
abbrev main_call0_v8 : Ref sig .tc := ⟨.hbm, 79, rfl⟩
abbrev main_call0_cst_2 : Ref sig .tc := ⟨.hbm, 80, rfl⟩
abbrev main_call0_v9 : Ref sig .tc := ⟨.hbm, 81, rfl⟩
abbrev main_call0_v10 : Ref sig .tc := ⟨.hbm, 82, rfl⟩
abbrev main_call0_cst_3 : Ref sig .tc := ⟨.hbm, 83, rfl⟩
abbrev main_call0_v11 : Ref sig .tc := ⟨.hbm, 84, rfl⟩
abbrev main_call0_cst_4 : Ref sig .tc := ⟨.hbm, 85, rfl⟩
abbrev main_call0_call0_v0 : Ref sig .tc := ⟨.hbm, 86, rfl⟩
abbrev main_v46 : Ref sig .tc := ⟨.hbm, 87, rfl⟩
abbrev main_cst_14 : Ref sig .tc := ⟨.hbm, 88, rfl⟩
abbrev main_v47 : Ref sig .tc := ⟨.hbm, 89, rfl⟩
abbrev main_cst_15 : Ref sig .tc := ⟨.hbm, 90, rfl⟩
abbrev main_v48 : Ref sig .tc := ⟨.hbm, 91, rfl⟩
abbrev main_v49 : Ref sig .tc := ⟨.hbm, 92, rfl⟩
abbrev main_cst_16 : Ref sig .tc := ⟨.hbm, 93, rfl⟩
abbrev main_v50 : Ref sig .tc := ⟨.hbm, 94, rfl⟩
abbrev main_v51 : Ref sig .tc := ⟨.hbm, 95, rfl⟩
abbrev main_c_17 : Ref sig .tc := ⟨.hbm, 96, rfl⟩
abbrev main_call1_cst : Ref sig .tc := ⟨.hbm, 97, rfl⟩
abbrev main_call1_v0 : Ref sig .tc := ⟨.hbm, 98, rfl⟩
abbrev main_call1_v1 : Ref sig .tc := ⟨.hbm, 99, rfl⟩
abbrev main_call1_cst_0 : Ref sig .tc := ⟨.hbm, 100, rfl⟩
abbrev main_call1_v2 : Ref sig .tc := ⟨.hbm, 101, rfl⟩
abbrev main_call1_v3 : Ref sig .tc := ⟨.hbm, 102, rfl⟩
abbrev main_call1_v4 : Ref sig .tc := ⟨.hbm, 103, rfl⟩
abbrev main_call1_v5 : Ref sig .tc := ⟨.hbm, 104, rfl⟩
abbrev main_call1_v6 : Ref sig .tc := ⟨.hbm, 105, rfl⟩
abbrev main_call1_v7 : Ref sig .tc := ⟨.hbm, 106, rfl⟩
abbrev main_call1_cst_1 : Ref sig .tc := ⟨.hbm, 107, rfl⟩
abbrev main_call1_v8 : Ref sig .tc := ⟨.hbm, 108, rfl⟩
abbrev main_call1_cst_2 : Ref sig .tc := ⟨.hbm, 109, rfl⟩
abbrev main_call1_v9 : Ref sig .tc := ⟨.hbm, 110, rfl⟩
abbrev main_call1_v10 : Ref sig .tc := ⟨.hbm, 111, rfl⟩
abbrev main_call1_cst_3 : Ref sig .tc := ⟨.hbm, 112, rfl⟩
abbrev main_call1_v11 : Ref sig .tc := ⟨.hbm, 113, rfl⟩
abbrev main_call1_cst_4 : Ref sig .tc := ⟨.hbm, 114, rfl⟩
abbrev main_call1_call0_v0 : Ref sig .tc := ⟨.hbm, 115, rfl⟩
abbrev main_v52 : Ref sig .tc := ⟨.hbm, 116, rfl⟩
abbrev main_cst_18 : Ref sig .tc := ⟨.hbm, 117, rfl⟩
abbrev main_v53 : Ref sig .tc := ⟨.hbm, 118, rfl⟩
abbrev main_cst_19 : Ref sig .tc := ⟨.hbm, 119, rfl⟩
abbrev main_v54 : Ref sig .tc := ⟨.hbm, 120, rfl⟩
abbrev main_v55 : Ref sig .tc := ⟨.hbm, 121, rfl⟩
abbrev main_cst_20 : Ref sig .tc := ⟨.hbm, 122, rfl⟩
abbrev main_v56 : Ref sig .tc := ⟨.hbm, 123, rfl⟩
abbrev main_v57 : Ref sig .tc := ⟨.hbm, 124, rfl⟩
abbrev main_v58 : Ref sig .tc := ⟨.hbm, 125, rfl⟩
abbrev main_cst_21 : Ref sig .tc := ⟨.hbm, 126, rfl⟩
abbrev main_v59 : Ref sig .tc := ⟨.hbm, 127, rfl⟩
abbrev main_v60 : Ref sig .tc := ⟨.hbm, 128, rfl⟩
abbrev main_cst_22 : Ref sig .tc := ⟨.hbm, 129, rfl⟩
abbrev main_v61 : Ref sig .tc := ⟨.hbm, 130, rfl⟩
abbrev main_v62 : Ref sig .tc := ⟨.hbm, 131, rfl⟩
abbrev main_v63 : Ref sig .tc := ⟨.hbm, 132, rfl⟩
abbrev main_v64 : Ref sig .tc := ⟨.hbm, 133, rfl⟩
abbrev main_cst_23 : Ref sig .tc := ⟨.hbm, 134, rfl⟩
abbrev main_v65 : Ref sig .tc := ⟨.hbm, 135, rfl⟩
abbrev main_v66 : Ref sig .tc := ⟨.hbm, 136, rfl⟩
abbrev main_v67 : Ref sig .tc := ⟨.hbm, 137, rfl⟩
abbrev main_v68 : Ref sig .tc := ⟨.hbm, 138, rfl⟩
abbrev main_v69 : Ref sig .tc := ⟨.hbm, 139, rfl⟩
abbrev main_v70 : Ref sig .tc := ⟨.hbm, 140, rfl⟩
abbrev main_v71 : Ref sig .tc := ⟨.hbm, 141, rfl⟩
abbrev main_cst_24 : Ref sig .tc := ⟨.hbm, 142, rfl⟩
abbrev main_v72 : Ref sig .tc := ⟨.hbm, 143, rfl⟩
abbrev main_v73 : Ref sig .tc := ⟨.hbm, 144, rfl⟩
abbrev main_v74 : Ref sig .tc := ⟨.hbm, 145, rfl⟩
abbrev main_v75 : Ref sig .tc := ⟨.hbm, 146, rfl⟩
abbrev main_v76 : Ref sig .tc := ⟨.hbm, 147, rfl⟩
abbrev main_call2_v0 : Ref sig .tc := ⟨.hbm, 148, rfl⟩
abbrev main_call2_v1 : Ref sig .tc := ⟨.hbm, 149, rfl⟩
abbrev main_call2_cst : Ref sig .tc := ⟨.hbm, 150, rfl⟩
abbrev main_call2_v2 : Ref sig .tc := ⟨.hbm, 151, rfl⟩
abbrev main_call2_v3 : Ref sig .tc := ⟨.hbm, 152, rfl⟩
abbrev main_call2_cst_0 : Ref sig .tc := ⟨.hbm, 153, rfl⟩
abbrev main_call2_v4 : Ref sig .tc := ⟨.hbm, 154, rfl⟩
abbrev main_call2_v5 : Ref sig .tc := ⟨.hbm, 155, rfl⟩
abbrev main_v77 : Ref sig .tc := ⟨.hbm, 156, rfl⟩
abbrev main_v78 : Ref sig .tc := ⟨.hbm, 157, rfl⟩
abbrev main_c_25 : Ref sig .tc := ⟨.hbm, 158, rfl⟩
abbrev main_call3_v0 : Ref sig .tc := ⟨.hbm, 159, rfl⟩
abbrev main_v79 : Ref sig .tc := ⟨.hbm, 160, rfl⟩
abbrev main_v80 : Ref sig .tc := ⟨.hbm, 161, rfl⟩
abbrev main_v81 : Ref sig .tc := ⟨.hbm, 162, rfl⟩
abbrev main_v82 : Ref sig .tc := ⟨.hbm, 163, rfl⟩
abbrev main_v83 : Ref sig .tc := ⟨.hbm, 164, rfl⟩
abbrev main_v84 : Ref sig .tc := ⟨.hbm, 165, rfl⟩
abbrev main_cst_26 : Ref sig .tc := ⟨.hbm, 166, rfl⟩
abbrev main_v85 : Ref sig .tc := ⟨.hbm, 167, rfl⟩
abbrev main_v86 : Ref sig .tc := ⟨.hbm, 168, rfl⟩
abbrev main_v87 : Ref sig .tc := ⟨.hbm, 169, rfl⟩
abbrev main_v88 : Ref sig .tc := ⟨.hbm, 170, rfl⟩
abbrev main_v89 : Ref sig .tc := ⟨.hbm, 171, rfl⟩
abbrev main_v90 : Ref sig .tc := ⟨.hbm, 172, rfl⟩
abbrev main_v91 : Ref sig .tc := ⟨.hbm, 173, rfl⟩
abbrev main_v92 : Ref sig .tc := ⟨.hbm, 174, rfl⟩
abbrev main_v93 : Ref sig .tc := ⟨.hbm, 175, rfl⟩
abbrev main_v94 : Ref sig .tc := ⟨.hbm, 176, rfl⟩
abbrev main_v95 : Ref sig .tc := ⟨.hbm, 177, rfl⟩
abbrev main_v96 : Ref sig .tc := ⟨.hbm, 178, rfl⟩
abbrev main_v97 : Ref sig .tc := ⟨.hbm, 179, rfl⟩
abbrev main_v98 : Ref sig .tc := ⟨.hbm, 180, rfl⟩
abbrev main_v99 : Ref sig .tc := ⟨.hbm, 181, rfl⟩
abbrev main_v100 : Ref sig .tc := ⟨.hbm, 182, rfl⟩
abbrev main_v101 : Ref sig .tc := ⟨.hbm, 183, rfl⟩
abbrev main_v102 : Ref sig .tc := ⟨.hbm, 184, rfl⟩
abbrev main_v103 : Ref sig .tc := ⟨.hbm, 185, rfl⟩
abbrev main_v104 : Ref sig .tc := ⟨.hbm, 186, rfl⟩
abbrev main_v105 : Ref sig .tc := ⟨.hbm, 187, rfl⟩
abbrev main_v106 : Ref sig .tc := ⟨.hbm, 188, rfl⟩
abbrev main_v107 : Ref sig .tc := ⟨.hbm, 189, rfl⟩
abbrev main_v108 : Ref sig .tc := ⟨.hbm, 190, rfl⟩
abbrev main_v109 : Ref sig .tc := ⟨.hbm, 191, rfl⟩
abbrev main_v110 : Ref sig .tc := ⟨.hbm, 192, rfl⟩
abbrev main_v111 : Ref sig .tc := ⟨.hbm, 193, rfl⟩
abbrev main_v112 : Ref sig .tc := ⟨.hbm, 194, rfl⟩
abbrev main_v113 : Ref sig .tc := ⟨.hbm, 195, rfl⟩
abbrev main_v114 : Ref sig .tc := ⟨.hbm, 196, rfl⟩
abbrev main_v115 : Ref sig .tc := ⟨.hbm, 197, rfl⟩
abbrev main_v116 : Ref sig .tc := ⟨.hbm, 198, rfl⟩
abbrev main_v117 : Ref sig .tc := ⟨.hbm, 199, rfl⟩
abbrev main_v118 : Ref sig .tc := ⟨.hbm, 200, rfl⟩
abbrev main_v119 : Ref sig .tc := ⟨.hbm, 201, rfl⟩
abbrev main_v120 : Ref sig .tc := ⟨.hbm, 202, rfl⟩
abbrev main_v121 : Ref sig .tc := ⟨.hbm, 203, rfl⟩
abbrev main_v122 : Ref sig .tc := ⟨.hbm, 204, rfl⟩
abbrev main_v123 : Ref sig .tc := ⟨.hbm, 205, rfl⟩
abbrev main_v124 : Ref sig .tc := ⟨.hbm, 206, rfl⟩
abbrev main_v125 : Ref sig .tc := ⟨.hbm, 207, rfl⟩
abbrev main_v126 : Ref sig .tc := ⟨.hbm, 208, rfl⟩
abbrev main_v127 : Ref sig .tc := ⟨.hbm, 209, rfl⟩
abbrev main_v128 : Ref sig .tc := ⟨.hbm, 210, rfl⟩
abbrev main_v129 : Ref sig .tc := ⟨.hbm, 211, rfl⟩
abbrev main_v130 : Ref sig .tc := ⟨.hbm, 212, rfl⟩
abbrev main_v131 : Ref sig .tc := ⟨.hbm, 213, rfl⟩
abbrev main_v132 : Ref sig .tc := ⟨.hbm, 214, rfl⟩
abbrev main_v133 : Ref sig .tc := ⟨.hbm, 215, rfl⟩
abbrev main_v134 : Ref sig .tc := ⟨.hbm, 216, rfl⟩
abbrev main_cst_27 : Ref sig .tc := ⟨.hbm, 217, rfl⟩
abbrev main_v135 : Ref sig .tc := ⟨.hbm, 218, rfl⟩
abbrev main_v136 : Ref sig .tc := ⟨.hbm, 219, rfl⟩
abbrev main_v137 : Ref sig .tc := ⟨.hbm, 220, rfl⟩
abbrev main_v138 : Ref sig .tc := ⟨.hbm, 221, rfl⟩

abbrev nD : Nat := 1
abbrev τ : Topo := Topo.v7x

variable {F : FTy → Type} [FloatOps F]
-- ==== Proof.Sums.lean ====
/- The first region of the kernel adds up each of the 192 rows of 50176 pixels, 3584 lanes at a time.
   Its result array is the row sum of the array it is handed. -/
module

public import proofs.«01_k».proof.Proof.Gen.KernelIdeal.Frame
public import Idealize.ShloMosaic.Lib.Pipeline.ValueKit

@[expose] public section

set_option maxRecDepth 16384
set_option synthInstance.maxSize 4096

noncomputable section

namespace Cert.Proof.Sums

open Idealize.ShloMosaic Idealize.ShloMosaic.TcCoe Idealize.SL.Sem
open Cert.KernelIdeal Cert.KernelIdeal.Gen
open Pipeline (Dat)

variable (V : (c : Dev nD) → (b : Ref sig .tc) → Buf (Elt Ideal) ((c : Thread nD τ).loc b))

/-- The row sums of an array of 192 rows. -/
def rowSum (x : FVec Ideal S192x50176 .f32) : FVec Ideal S192x1 .f32 :=
  fun j => ∑ k : Fin 50176, x (ix2 (j 0) k)

theorem hzero (j : S192x1.Idx) : k0_pay1 (F := Ideal) j = 0 := by pointwise [k0_pay1]

theorem hpay (acc : FVec Ideal S192x1 .f32) (x : FVec Ideal S192x3584 .f32) (j : S192x1.Idx) :
    k0_pay2 (F := Ideal) acc x j = acc j + ∑ k : Fin 3584, x (ix2 (j 0) k) := by
  pointwise [k0_pay2]

theorem idx : ∀ t : Fin cfg0.N, win0_0.index t = ![0, t.val] :=
  (by decide +kernel : ∀ t : Fin grid0.N, _)

/-- What the region leaves in its result: the row sums of what it was handed. -/
theorem final (c : Dev nD) :
    (dat0 V c).arrAt 1 cfg0.N = rowSum (show FVec Ideal S192x50176 .f32 from V c (Pipeline.arrRef spec0 0)) := by
  refine (dat0 V c).arrAt_eq_of_after_last 1 t0_13 (by decide +kernel) _ fun j => ?_
  blk_simp
  rw [after0_1, Pipeline.eq_sum_fin_of_reset_step_apply_last (fun n h => outsAt0 V c n h) 14 (fun _ => 0) _
    (fun t h j => by rw [outsAt0_A V c t h]; frame_out; rw [hpay, hzero])
    (fun t h j => by rw [outsAt0_B V c t h]; frame_out; rw [hpay])
    (le_of_eq N_0) t0_13 rfl j, zero_add, rowSum]
  refine Fin.sum_mul_add_congr fun t k hl => ?_
  blk_point [iblk0, idx t]

end Cert.Proof.Sums
end
-- ==== Proof.Consts.lean ====
module

public import Idealize.ShloMosaic.Lib.Pipeline.ValueKit
public import Idealize.ShloMosaic.Lib.IdealHost

@[expose] public section

noncomputable section

/- The extended reals that the programs' constant patterns denote. -/
namespace Cert.Proof.Consts

open Idealize.ShloMosaic

theorem neg_inf : Ideal.ofBits .f32 0xFF800000#32 = ⊥ := by simp [Ideal.ofBits, Ideal.ieee]

theorem pos_inf : Ideal.ofBits .f32 0x7F800000#32 = ⊤ := by simp [Ideal.ofBits, Ideal.ieee]

theorem eight : Ideal.ofBits .f32 0x41000000#32 = ((8 : ℝ) : EReal) := by
  simp [Ideal.ofBits, Ideal.ieee, -EReal.coe_mul]; norm_num

theorem seven : Ideal.ofBits .f32 0x40E00000#32 = ((7 : ℝ) : EReal) := by
  simp [Ideal.ofBits, Ideal.ieee, -EReal.coe_mul]; norm_num

theorem npix : Ideal.ofBits .f32 0x47440000#32 = ((50176 : ℝ) : EReal) := by
  simp [Ideal.ofBits, Ideal.ieee, -EReal.coe_mul]; norm_num

/-- The small number added to the sum of the two chosen probabilities is a positive real. -/
theorem eps : ∃ r : ℝ, 0 < r ∧ Ideal.ofBits .f32 0x358637BD#32 = (r : EReal) := by
  refine ⟨8796093 * (2 : ℝ) ^ (-43 : ℤ), by positivity, ?_⟩
  simp [Ideal.ofBits, Ideal.ieee, -EReal.coe_mul]

/-- The coefficient of the second weight is a real. -/
theorem coef2 : ∃ r : ℝ, 0 < r ∧ Ideal.ofBits .f32 0x40100000#32 = (r : EReal) := by
  refine ⟨9 / 4, by positivity, ?_⟩
  simp [Ideal.ofBits, Ideal.ieee, -EReal.coe_mul]; norm_num

/-- The coefficient of the third weight is a real. -/
theorem coef3 : ∃ r : ℝ, 0 < r ∧ Ideal.ofBits .f32 0x42055555#32 = (r : EReal) := by
  refine ⟨8738133 * (2 : ℝ) ^ (-18 : ℤ), by positivity, ?_⟩
  simp [Ideal.ofBits, Ideal.ieee, -EReal.coe_mul]

end Cert.Proof.Consts
end
-- ==== Proof.Route.lean ====
module

public import proofs.«01_k».proof.Proof.Consts
public import Idealize.ShloMosaic.Lib.SortPrefix

@[expose] public section

noncomputable section

/- The gating of one row of eight numbers: the softmax, the two greatest of it, and the loss over the gates,
   with the two spellings of "the two greatest" shown equal. -/
namespace Cert.Proof.Route

open Idealize.ShloMosaic

/-- The greatest of eight. -/
def best (p : Fin 8 → EReal) : EReal := Finset.univ.fold max (Ideal.ofBits .f32 0xFF800000#32) p

/-- The softmax of eight numbers. -/
def probs (l : Fin 8 → EReal) (j : Fin 8) : EReal :=
  Ideal.div (Ideal.exp (l j - best l)) (∑ k, Ideal.exp (l k - best l))

/-- The position that a stable sort by "greater first" puts at `r`. -/
def nth (p : Fin 8 → EReal) (r : Fin 2) : Fin 8 :=
  sortedFrom (fun a b : Fin 8 => decide (p b < p a)) (r.castLE (by decide))

/-- The sum of the two greatest, and the small constant. -/
def denom (p : Fin 8 → EReal) : EReal := (p (nth p 0) + p (nth p 1)) + Ideal.ofBits .f32 0x358637BD#32

/-- The gates of a row: at the two greatest their shares, zero elsewhere. -/
def gates (p : Fin 8 → EReal) (j : Fin 8) : EReal :=
  if j = nth p 0 then Ideal.div (p (nth p 0)) (denom p)
  else if j = nth p 1 then Ideal.div (p (nth p 1)) (denom p) else 0

/-- One where positive, zero elsewhere. -/
def used (z : EReal) : EReal := if 0 < z then 1 else 0

/-- The squared coefficient of variation of eight numbers. -/
def cv2 (x : Fin 8 → EReal) : EReal :=
  Ideal.div
    (Ideal.div (∑ k, (x k - Ideal.div (∑ i, x i) (Ideal.ofBits .f32 0x41000000#32))
      * (x k - Ideal.div (∑ i, x i) (Ideal.ofBits .f32 0x41000000#32))) (Ideal.ofBits .f32 0x40E00000#32))
    (Ideal.div (∑ i, x i) (Ideal.ofBits .f32 0x41000000#32) * Ideal.div (∑ i, x i) (Ideal.ofBits .f32 0x41000000#32)
      + Ideal.ofBits .f32 0x2EDBE6FF#32)

/-- The balance loss of two rows of gates. -/
def loss (G : Fin 2 → Fin 8 → EReal) : EReal :=
  (cv2 (fun j => ∑ b, G b j) + cv2 (fun j => ∑ b, used (G b j))) * Ideal.ofBits .f32 0x3C23D70A#32

/-! ## The least position of the greatest -/

/-- `i` is the least position of the greatest entry. -/
def IsFirst (p : Fin 8 → EReal) (i : Fin 8) : Prop := (∀ k, p k ≤ p i) ∧ ∀ k, p k = p i → i ≤ k

theorem exists_first (p : Fin 8 → EReal) : ∃ i, IsFirst p i := by
  obtain ⟨m, -, hm⟩ := Finset.exists_max_image Finset.univ p Finset.univ_nonempty
  obtain ⟨i, hi, hi'⟩ := Finset.exists_min_image (Finset.univ.filter fun k => p k = p m) id ⟨m, by simp⟩
  have e : p i = p m := by simpa using hi
  exact ⟨i, fun k => e ▸ hm k (Finset.mem_univ k), fun k hk => hi' k (by simp [hk, e])⟩

theorem best_eq {p : Fin 8 → EReal} {i : Fin 8} (h : IsFirst p i) : best p = p i := by
  refine le_antisymm ((Finset.fold_max_le (p i)).2 ⟨?_, fun k _ => h.1 k⟩)
    ((Finset.le_fold_max (p i)).2 (Or.inr ⟨i, Finset.mem_univ i, le_rfl⟩))
  rw [Consts.neg_inf]; exact bot_le

theorem minsi_toInt (a b : BitVec 32) : (IntOp.minsi a b).toInt = min a.toInt b.toInt := by
  unfold IntOp.minsi
  simp only [BitVec.slt, decide_eq_true_eq]
  split <;> omega

theorem ofNat_toInt (k : Fin 8) : (BitVec.ofNat 32 k.val).toInt = (k.val : ℤ) := by
  revert k; decide

/-- The least of the positions holding the greatest entry, taken over the position words. -/
theorem pick {p : Fin 8 → EReal} {i : Fin 8} (h : IsFirst p i) :
    Finset.univ.fold IntOp.minsi (2147483647#32) (fun k : Fin 8 => if p k = best p then BitVec.ofNat 32 k.val else 8#32)
      = BitVec.ofNat 32 i.val := by
  refine BitVec.eq_of_toInt_eq ?_
  rw [← Finset.fold_hom (op' := min) (m := BitVec.toInt) minsi_toInt, ofNat_toInt, best_eq h]
  have hi := i.isLt
  refine le_antisymm ?_ ?_
  · exact (Finset.fold_min_le (i.val : ℤ)).2 (Or.inr ⟨i, Finset.mem_univ i, by rw [if_pos rfl, ofNat_toInt]⟩)
  · refine (Finset.le_fold_min (i.val : ℤ)).2 ⟨by simp; omega, fun k _ => ?_⟩
    split
    · rename_i hk
      rw [ofNat_toInt]
      exact_mod_cast h.2 k hk
    · show _ ≤ (8 : ℤ); omega

/-! ## The sort's first two -/

theorem insert_congr {ι : Type} (R R' : ι → ι → Bool) (a : ι) : ∀ l : List ι, (∀ b ∈ l, R b a = R' b a) →
    insertBefore R a l = insertBefore R' a l
  | [], _ => rfl
  | b :: l, h => by
    unfold insertBefore
    rw [h b (by simp), insert_congr R R' a l fun c hc => h c (by simp [hc])]

/-- "Greater first", equal entries in the order of their positions. -/
def before (p : Fin 8 → EReal) (a b : Fin 8) : Bool := decide (p b < p a) || (decide (p a = p b) && decide (a < b))

theorem strict (p : Fin 8 → EReal) : StrictTotalBefore (before p) :=
  StrictTotalBefore.of_key_then_position (fun x y : EReal => decide (y < x)) p (by simp)
    (fun a b c h h' => by simp only [decide_eq_true_eq] at h h' ⊢; exact h'.trans h)
    (fun a b => by
      simp only [decide_eq_true_eq]
      rcases lt_trichotomy a b with h | h | h
      · exact Or.inr (Or.inr h)
      · exact Or.inr (Or.inl h)
      · exact Or.inl h)

theorem sort_eq (p : Fin 8 → EReal) : ∀ l : List (Fin 8), l.Pairwise (· < ·) →
    stableSort (fun a b : Fin 8 => decide (p b < p a)) l = stableSort (before p) l
  | [], _ => rfl
  | a :: l, h => by
    rw [List.pairwise_cons] at h
    unfold stableSort
    rw [sort_eq p l h.2]
    refine insert_congr _ _ a _ fun b hb => ?_
    have hab := h.1 b ((perm_stableSort _ l).mem_iff.1 hb)
    simp [before, not_lt_of_gt hab]

theorem sorted_eq (p : Fin 8 → EReal) : sortedFrom (fun a b : Fin 8 => decide (p b < p a)) = sortedFrom (before p) := by
  funext k
  unfold sortedFrom sortPositions
  rw [List.get_of_eq (sort_eq p (List.finRange 8) (List.pairwise_lt_finRange 8))]
  rfl

theorem nth_eq {p : Fin 8 → EReal} {i j : Fin 8} (h0 : ∀ k, k ≠ i → before p k i = false)
    (h1 : ∀ k, k ≠ i → k ≠ j → before p k j = false) (hij : i ≠ j) : nth p 0 = i ∧ nth p 1 = j := by
  have key := (strict p).sortedFrom_eq_of_prefix (k := 2) (by decide) ![i, j]
    (by intro a b h; fin_cases a <;> fin_cases b <;> simp_all [Ne.symm])
    (by
      intro a b hab
      fin_cases a <;> fin_cases b <;> simp_all
      exact h0 j (Ne.symm hij))
    (by
      intro a q hq
      have q0 := hq 0
      have q1 := hq 1
      fin_cases a
      · exact h0 q (Ne.symm q0)
      · exact h1 q (Ne.symm q0) (Ne.symm q1))
  unfold nth
  rw [sorted_eq]
  exact ⟨key 0, key 1⟩

theorem nth_ne (p : Fin 8 → EReal) : nth p 0 ≠ nth p 1 := fun h => by
  have := sortedFrom_injective _ h
  simp [Fin.ext_iff] at this

/-! ## The gates of a softmax -/

theorem exp_nonneg (x : EReal) : 0 ≤ Ideal.exp x := by
  induction x using EReal.rec with
  | bot => simp
  | coe r => rw [Ideal.exp_coe]; exact_mod_cast (Real.exp_pos r).le
  | top => simp

/-- A softmax is everywhere `⊥` (every exponential zero) or everywhere nonnegative. -/
theorem probs_cases (l : Fin 8 → EReal) : (∀ j, probs l j = ⊥) ∨ ∀ j, 0 ≤ probs l j := by
  by_cases hs : ∑ k, Ideal.exp (l k - best l) = 0
  · left
    intro j
    have h0 : Ideal.exp (l j - best l) = 0 :=
      (Finset.sum_eq_zero_iff_of_nonneg fun k _ => exp_nonneg _).1 hs j (Finset.mem_univ j)
    unfold probs
    rw [hs, h0]
    simp [Ideal.div]
  · right
    intro j
    unfold probs Ideal.div
    rw [if_neg hs]
    exact mul_nonneg (exp_nonneg _) (EReal.inv_nonneg_of_nonneg (Finset.sum_nonneg fun k _ => exp_nonneg _))

theorem sum_gates (p : Fin 8 → EReal) :
    ∑ j, gates p j = Ideal.div (p (nth p 0)) (denom p) + Ideal.div (p (nth p 1)) (denom p) := by
  have e : ∀ j, gates p j = (if j = nth p 0 then Ideal.div (p (nth p 0)) (denom p) else 0)
      + (if j = nth p 1 then Ideal.div (p (nth p 1)) (denom p) else 0) := fun j => by
    unfold gates
    by_cases h0 : j = nth p 0
    · rw [if_pos h0, if_pos h0, if_neg (fun h => nth_ne p (h0 ▸ h)), add_zero]
    · rw [if_neg h0, if_neg h0, zero_add]
  simp only [e, Finset.sum_add_distrib, Finset.sum_ite_eq', Finset.mem_univ, if_true]

/-- The row with the first choice struck out. -/
def rest (p : Fin 8 → EReal) (i : Fin 8) (j : Fin 8) : EReal := if j = i then Ideal.ofBits .f32 0xFF800000#32 else p j

/-- The two choices made one after the other give the row's gates and their sum. -/
theorem chosen (l : Fin 8 → EReal) {i i' : Fin 8} (h : IsFirst (probs l) i) (h' : IsFirst (rest (probs l) i) i') :
    (∀ j, Ideal.div ((if j = i then best (probs l) else 0) + (if j = i' then best (rest (probs l) i) else 0))
        (best (probs l) + best (rest (probs l) i) + Ideal.ofBits .f32 0x358637BD#32) = gates (probs l) j)
    ∧ Ideal.div (best (probs l) + best (rest (probs l) i))
        (best (probs l) + best (rest (probs l) i) + Ideal.ofBits .f32 0x358637BD#32) = ∑ j, gates (probs l) j := by
  obtain ⟨e, he, hee⟩ := Consts.eps
  rw [sum_gates, best_eq h, best_eq h']
  have hc := probs_cases l
  generalize probs l = p at *
  rcases hc with hb | hp
  · have hr : rest p i i' = ⊥ := by unfold rest; split; exacts [Consts.neg_inf, hb _]
    have hd : denom p = ⊥ := by unfold denom; rw [hb, hb]; simp
    have z : Ideal.div ⊥ ⊥ = 0 := by simp [Ideal.div]
    have z' : Ideal.div 0 ⊥ = 0 := by simp [Ideal.div]
    rw [hb, hr, hd, hb, hb]
    refine ⟨fun j => ?_, by simp [z]⟩
    unfold gates
    rw [hd, hb, hb]
    simp only [EReal.bot_add, z, ite_self]
    split <;> split <;> simp [z, z']
  · have hne : i' ≠ i := fun hi => by
      obtain ⟨k, hk⟩ : ∃ k : Fin 8, k ≠ i := ⟨i + 1, (by decide : ∀ i : Fin 8, i + 1 ≠ i) i⟩
      have := h'.1 k
      rw [hi] at this
      unfold rest at this
      rw [if_neg hk, if_pos rfl, Consts.neg_inf, le_bot_iff] at this
      exact absurd (hp k) (by rw [this]; simp)
    have hr : rest p i i' = p i' := if_neg hne
    have hn : nth p 0 = i ∧ nth p 1 = i' := by
      refine nth_eq (fun k hk => ?_) (fun k hk hk' => ?_) (Ne.symm hne)
      · simp only [before, Bool.or_eq_false_iff, Bool.and_eq_false_iff, decide_eq_false_iff_not, not_lt]
        exact ⟨h.1 k, (em (p k = p i)).symm.imp_right fun q => h.2 k q⟩
      · have a := h'.1 k
        have b := h'.2 k
        rw [hr] at a b
        unfold rest at a b
        rw [if_neg hk] at a b
        simp only [before, Bool.or_eq_false_iff, Bool.and_eq_false_iff, decide_eq_false_iff_not, not_lt]
        exact ⟨a, (em (p k = p i')).symm.imp_right fun q => b q⟩
    have hd : denom p = p i + p i' + Ideal.ofBits .f32 0x358637BD#32 := by unfold denom; rw [hn.1, hn.2]
    have hd0 : p i + p i' + Ideal.ofBits .f32 0x358637BD#32 ≠ 0 := by
      refine ne_of_gt (lt_of_lt_of_le ?_ (le_add_of_nonneg_left (add_nonneg (hp i) (hp i'))))
      rw [hee]; exact_mod_cast he
    rw [hr]
    refine ⟨fun j => ?_, ?_⟩
    · unfold gates
      rw [hn.1, hn.2, hd]
      by_cases h0 : j = i
      · rw [if_pos h0, if_pos h0, if_neg (fun q : j = i' => hne (q.symm.trans h0)), add_zero]
      · rw [if_neg h0, if_neg h0, zero_add]
        split
        · rfl
        · unfold Ideal.div; rw [if_neg hd0, zero_mul]
    · rw [hn.1, hn.2, hd]
      unfold Ideal.div
      rw [if_neg hd0, if_neg hd0, if_neg hd0]
      exact EReal.right_distrib_of_nonneg (hp i) (hp i')

end Cert.Proof.Route
end
-- ==== Proof.Gate.lean ====
module

public import proofs.«01_k».proof.Proof.Gen.KernelIdeal.Frame
public import Idealize.ShloMosaic.Lib.Pipeline.ValueKit
public import proofs.«01_k».proof.Proof.Route

@[expose] public section

set_option maxRecDepth 16384
set_option synthInstance.maxSize 4096

noncomputable section

/- The second launch: the gating of the two images from their channel sums, its scale and its loss. -/
namespace Cert.Proof.Gate

open Idealize.ShloMosaic Idealize.ShloMosaic.TcCoe Idealize.SL.Sem
open Cert.KernelIdeal Cert.KernelIdeal.Gen
open Pipeline (Dat)
open Cert.Proof.Route

/-- The gate's inputs for image `b`: the means of its channels, weighted. -/
def logits (x : FVec Ideal S2x96 .f32) (g : FVec Ideal S96x8 .f32) (b : Fin 2) (e : Fin 8) : EReal :=
  ∑ c : Fin 96, x (ix2 b c) * Named.named (F := Ideal) κ "inv_npix" (φ := .f32) 0x37A72F05#32 * g (ix2 c e)

theorem probs_at (x : FVec Ideal S2x96 .f32) (g : FVec Ideal S96x8 .f32) (b : Fin 2) (j : Fin 8) :
    k1_pay2 (F := Ideal) x g (ix2 b j) = probs (logits x g b) j := by
  pointwise [k1_pay2]
  rfl

theorem best_at (x : FVec Ideal S2x96 .f32) (g : FVec Ideal S96x8 .f32) (b : Fin 2) :
    k1_pay3 (F := Ideal) x g (ix2 b 0) = best (probs (logits x g b)) := by
  pointwise [k1_pay3]
  simp only [probs_at]
  rfl

theorem word_eq (j i : Fin 8) :
    IntOp.cmpi .eq (BitVec.ofNat 32 j.val) (BitVec.ofNat 32 i.val) = BitVec.ofBool (decide (j = i)) := by
  revert j i; decide

theorem sel_at {α : Type} (q : Prop) [Decidable q] (a b : α) :
    Scalar.select (BitVec.ofBool (decide q)) a b = if q then a else b := by
  by_cases h : q <;> simp [h, Scalar.select]

theorem mask_at (x : FVec Ideal S2x96 .f32) (g : FVec Ideal S96x8 .f32) (b : Fin 2) (j i : Fin 8)
    (h : IsFirst (probs (logits x g b)) i) :
    k1_pay4 (F := Ideal) x g (ix2 b j) = BitVec.ofBool (decide (j = i)) := by
  pointwise [k1_pay4, k1_pay3]
  simp only [probs_at]
  rw [← word_eq, ← pick h]
  rfl

theorem rest_at (x : FVec Ideal S2x96 .f32) (g : FVec Ideal S96x8 .f32) (b : Fin 2) (j i : Fin 8)
    (h : IsFirst (probs (logits x g b)) i) :
    k1_pay5 (F := Ideal) x g (ix2 b j) = rest (probs (logits x g b)) i j := by
  pointwise [k1_pay5]
  rw [mask_at x g b j i h, probs_at]
  unfold rest
  rw [sel_at]

theorem second_at (x : FVec Ideal S2x96 .f32) (g : FVec Ideal S96x8 .f32) (b : Fin 2) (i : Fin 8)
    (h : IsFirst (probs (logits x g b)) i) :
    k1_pay6 (F := Ideal) x g (ix2 b 0) = best (rest (probs (logits x g b)) i) := by
  pointwise [k1_pay6]
  simp only [rest_at x g b _ i h]
  rfl

theorem mask2_at (x : FVec Ideal S2x96 .f32) (g : FVec Ideal S96x8 .f32) (b : Fin 2) (j i i' : Fin 8)
    (h : IsFirst (probs (logits x g b)) i) (h' : IsFirst (rest (probs (logits x g b)) i) i') :
    k1_pay7 (F := Ideal) x g (ix2 b j) = BitVec.ofBool (decide (j = i')) := by
  pointwise [k1_pay7]
  simp only [rest_at x g b _ i h, second_at x g b i h]
  rw [← word_eq, ← pick h']

theorem gates_at (x : FVec Ideal S2x96 .f32) (g : FVec Ideal S96x8 .f32) (b : Fin 2) (j : Fin 8)
    (z : Ideal .f32) (hz : z = 0) :
    k1_pay11 (F := Ideal) (k1_pay4 (F := Ideal) x g) (k1_pay6 (F := Ideal) x g) (k1_pay7 (F := Ideal) x g) (k1_pay9 (F := Ideal) x g)
      z (k1_pay10 (F := Ideal) x g) (ix2 b j) = gates (probs (logits x g b)) j := by
  obtain ⟨i, h⟩ := exists_first (probs (logits x g b))
  obtain ⟨i', h'⟩ := exists_first (rest (probs (logits x g b)) i)
  subst hz
  pointwise [k1_pay11, k1_pay9, k1_pay8, k1_pay10]
  rw [mask_at x g b j i h, mask2_at x g b j i i' h h', second_at x g b i h, best_at, ← (chosen _ h h').1 j]
  simp only [sel_at]

theorem scale_at (x : FVec Ideal S2x96 .f32) (g : FVec Ideal S96x8 .f32) (b : Fin 2) :
    k1_pay12 (F := Ideal) (k1_pay8 (F := Ideal) x g) (k1_pay9 (F := Ideal) x g) (ix2 b 0) = ∑ j, gates (probs (logits x g b)) j := by
  obtain ⟨i, h⟩ := exists_first (probs (logits x g b))
  obtain ⟨i', h'⟩ := exists_first (rest (probs (logits x g b)) i)
  pointwise [k1_pay12, k1_pay9, k1_pay8]
  rw [second_at x g b i h, best_at, ← (chosen _ h h').2]

theorem used_at (z : EReal) :
    FloatOps.sitofp (F := Ideal) .f32 (BitVec.setWidth 32 (BitVec.ofBool (decide (0 < z)))) = used z := by
  unfold used
  by_cases h : 0 < z <;> simp [h, FloatOps.sitofp]

theorem loss_at (x : FVec Ideal S2x96 .f32) (g : FVec Ideal S96x8 .f32) :
    k1_pay1 (F := Ideal)
      (k1_pay14 (k1_pay4 (F := Ideal) x g) (k1_pay6 (F := Ideal) x g) (k1_pay7 (F := Ideal) x g) (k1_pay9 (F := Ideal) x g) (Scalar.ofBits .f32 0x00000000#32) (k1_pay10 (F := Ideal) x g))
      (k1_pay15 (k1_pay4 (F := Ideal) x g) (k1_pay6 (F := Ideal) x g) (k1_pay7 (F := Ideal) x g) (k1_pay9 (F := Ideal) x g) (Scalar.ofBits .f32 0x00000000#32) (k1_pay10 (F := Ideal) x g))
      (k1_pay16 (k1_pay4 (F := Ideal) x g) (k1_pay6 (F := Ideal) x g) (k1_pay7 (F := Ideal) x g) (k1_pay9 (F := Ideal) x g) (Scalar.ofBits .f32 0x00000000#32) (k1_pay10 (F := Ideal) x g))
      k1_pay17 (ix2 0 0) = loss fun b j => gates (probs (logits x g b)) j := by
  pointwise [k1_pay1, k1_pay14, k1_pay15, k1_pay16, k1_pay17, k1_pay13]
  simp only [gates_at x g _ _ 0 rfl, gates_at x g _ _ _ Ideal.ofBits_zero_f32]
  simp only [used_at]
  rfl

variable (V : (c : Dev nD) → (b : Ref sig .tc) → Buf (Elt Ideal) ((c : Thread nD τ).loc b))

/-- The channel sums the launch reads. -/
abbrev sumArr (c : Dev nD) : FVec Ideal S2x96 .f32 := V c (Pipeline.arrRef spec1 0)
/-- The gate's weights the launch reads. -/
abbrev gateArr (c : Dev nD) : FVec Ideal S96x8 .f32 := V c (Pipeline.arrRef spec1 1)

/-- The scale of each image. -/
def scales (x : FVec Ideal S2x96 .f32) (g : FVec Ideal S96x8 .f32) : FVec Ideal S2x1 .f32 :=
  fun j => ∑ e, gates (probs (logits x g (j 0))) e
/-- The balance loss. -/
def lossOf (x : FVec Ideal S2x96 .f32) (g : FVec Ideal S96x8 .f32) : FVec Ideal S1x1 .f32 :=
  fun _ => loss fun b j => gates (probs (logits x g b)) j

theorem scale_eq (x : FVec Ideal S2x96 .f32) (g : FVec Ideal S96x8 .f32) :
    k1_pay12 (F := Ideal) (k1_pay8 (F := Ideal) x g) (k1_pay9 (F := Ideal) x g) = scales x g := by
  funext j
  idx_vars j
  obtain rfl : j1 = 0 := Subsingleton.elim _ _
  exact scale_at _ _ _

theorem idx0 : ∀ t : Fin cfg1.N, win1_0.index t = ![0, 0] := (by decide +kernel : ∀ t : Fin grid1.N, _)
theorem idx1 : ∀ t : Fin cfg1.N, win1_1.index t = ![0, 0] := (by decide +kernel : ∀ t : Fin grid1.N, _)

theorem ld0 (x : FVec Ideal S2x96 .f32) : View.ld (Val := Elt Ideal) (e' := .f32) x r1_0 = x := by
  funext j
  idx_vars j
  pointwise

theorem ld1 (g : FVec Ideal S96x8 .f32) : View.ld (Val := Elt Ideal) (e' := .f32) g r1_1 = g := by
  funext j
  idx_vars j
  pointwise

theorem sums_eq (c : Dev nD) : iblk1 V c 0 t1_0 = sumArr V c := by
  funext j
  blk_ext [iblk1, idx0 t1_0]
theorem gate_eq (c : Dev nD) : iblk1 V c 1 t1_0 = gateArr V c := by
  funext j
  blk_ext [iblk1, idx1 t1_0]

theorem finalScale (c : Dev nD) : (dat1 V c).arrAt 2 cfg1.N = scales (sumArr V c) (gateArr V c) := by
  refine (dat1 V c).arrAt_eq_of_after_last 2 t1_0 (by decide +kernel) _ fun j => ?_
  blk_simp
  rw [after1_2, sums_eq, gate_eq]
  frame_out
  generalize sumArr V c = x
  generalize gateArr V c = g
  simp only [k1_pay18, k1_pay19, k1_pay20, k1_pay21, k1_pay22, ld0, ld1]
  exact congrFun (scale_eq x g) j

theorem finalLoss (c : Dev nD) : (dat1 V c).arrAt 3 cfg1.N = lossOf (sumArr V c) (gateArr V c) := by
  refine (dat1 V c).arrAt_eq_of_after_last 3 t1_0 (by decide +kernel) _ fun j => ?_
  blk_simp
  rw [after1_3, sums_eq, gate_eq]
  frame_out
  generalize sumArr V c = x
  generalize gateArr V c = g
  simp only [k1_pay18, k1_pay19, k1_pay20, k1_pay21, k1_pay22, ld0, ld1]
  idx_vars j
  obtain rfl : j0 = 0 := Subsingleton.elim _ _
  obtain rfl : j1 = 0 := Subsingleton.elim _ _
  exact loss_at _ _

end Cert.Proof.Gate
end
-- ==== Proof.Basis.lean ====
module

public import proofs.«01_k».proof.Proof.Gen.KernelIdeal.Frame
public import Idealize.ShloMosaic.Lib.Pipeline.ValueKit
public import Idealize.ShloMosaic.Lib.Routing.Words

@[expose] public section

set_option maxRecDepth 16384
set_option synthInstance.maxSize 4096

noncomputable section

/- What the third region of the kernel computes of a pixel: the polynomials of its channels, activated,
   and which of the lanes a point reads are pixels of the image. -/
namespace Cert.Proof.Basis

open Idealize.ShloMosaic Idealize.ShloMosaic.TcCoe Idealize.SL.Sem
open Cert.KernelIdeal Cert.KernelIdeal.Gen

/-- The three polynomials of the hyperbolic tangent of the 96 channels of a pixel, one degree after the other. -/
def poly (c2 c3 : EReal) (x : Fin 96 → EReal) (c : Fin 288) : EReal :=
  if h : c.val < 96 then Ideal.tanh (x ⟨c.val, h⟩)
  else if h' : c.val - 96 < 96 then Ideal.tanh (x ⟨c.val - 96, h'⟩) * Ideal.tanh (x ⟨c.val - 96, h'⟩) - c2
  else Ideal.tanh (x ⟨c.val - 96 - 96, by omega⟩)
    * (Ideal.tanh (x ⟨c.val - 96 - 96, by omega⟩) * Ideal.tanh (x ⟨c.val - 96 - 96, by omega⟩) - c2 - c3)

/-- The activated basis of a pixel: the constant polynomial first, then the other three. -/
def phi (c2 c3 : EReal) (x : Fin 96 → EReal) (c : Fin 384) : EReal :=
  if h : c.val < 96 then Ideal.logistic 1
  else poly c2 c3 x ⟨c.val - 96, by omega⟩ * Ideal.logistic (poly c2 c3 x ⟨c.val - 96, by omega⟩)

/-- Lane `l` of the 30 rows a point reads: the last row of the block above, the block, the first row of the block below. -/
def lane (v4 : FVec Ideal S1x96x896 .f32) (v7 : FVec Ideal S1x96x6272 .f32) (v9 : FVec Ideal S1x96x896 .f32) (l : Fin 6720) (ch : Fin 96) : EReal :=
  if h : l.val < 224 then v4 (ix3 0 ch ⟨672 + l.val, by omega⟩)
  else if h' : l.val - 224 < 6272 then v7 (ix3 0 ch ⟨l.val - 224, by omega⟩)
  else v9 (ix3 0 ch ⟨l.val - 224 - 6272, by omega⟩)

theorem basis_at (v0 v2 : FVec Ideal S1x1 .f32) (v4 v9 : FVec Ideal S1x96x896 .f32) (v7 : FVec Ideal S1x96x6272 .f32)
    (c : Fin 384) (l : Fin 6720) :
    k2_pay2 (F := Ideal) v0 v2 v4 v7 v9 (ix2 c l) = phi (v0 (ix2 0 0)) (v2 (ix2 0 0)) (lane v4 v7 v9 l) c := by
  pointwise [k2_pay2]
  unfold phi poly lane
  rfl

/-- The word of the flat position of lane `l` at row block `i`. -/
theorem pos_word (i : Fin 8) (l : Fin 6720) :
    (BitVec.ofNat 32 i.val * 28#32 - 1#32) * 224#32 + BitVec.ofNat 32 l.val
      = BitVec.ofInt 32 (((i.val : ℤ) * 28 - 1) * 224 + l.val) := by
  have ho : ∀ n : ℕ, n < 2 ^ 31 → (BitVec.ofNat 32 n).toInt = n := fun n hn => by
    rw [BitVec.toInt_ofNat']
    apply Int.bmod_eq_of_le <;> omega
  have hi := ho i.val (by omega)
  have hl := ho l.val (by omega)
  apply BitVec.eq_of_toInt_eq
  simp only [BitVec.toInt_add, BitVec.toInt_mul, BitVec.toInt_sub, hi, hl, BitVec.toInt_ofInt]
  simp [BitVec.toInt_add, BitVec.toInt_mul, BitVec.toInt_sub, BitVec.toInt_ofNat, BitVec.toInt_ofInt]

theorem mask_word (i : Fin 8) (l : Fin 6720) :
    FloatOps.sitofp (F := Ideal) FTy.f32
        (BitVec.setWidth 32
          (IntOp.andi
            (IntOp.cmpi CmpIPredicate.sge
              (IntOp.addi (Scalar.muli (Scalar.subi (Scalar.muli (BitVec.ofNat 32 i.val) 28#32) 1#32) 224#32)
                (BitVec.ofNat 32 l.val))
              0#32)
            (IntOp.cmpi CmpIPredicate.slt
              (IntOp.addi (Scalar.muli (Scalar.subi (Scalar.muli (BitVec.ofNat 32 i.val) 28#32) 1#32) 224#32)
                (BitVec.ofNat 32 l.val))
              50176#32)))
      = if 1 ≤ i.val * 28 + l.val / 224 ∧ i.val * 28 + l.val / 224 ≤ 224 then 1 else 0 := by
  have hw : IntOp.addi (Scalar.muli (Scalar.subi (Scalar.muli (BitVec.ofNat 32 i.val) 28#32) 1#32) 224#32) (BitVec.ofNat 32 l.val)
      = BitVec.ofInt 32 (((i.val : ℤ) * 28 - 1) * 224 + l.val) := pos_word i l
  have hz : (BitVec.ofInt 32 (((i.val : ℤ) * 28 - 1) * 224 + l.val)).toInt = ((i.val : ℤ) * 28 - 1) * 224 + l.val := by
    rw [BitVec.toInt_ofInt]
    apply Int.bmod_eq_of_le <;> omega
  rw [hw]
  have h1 : IntOp.cmpi CmpIPredicate.sge (BitVec.ofInt 32 (((i.val : ℤ) * 28 - 1) * 224 + l.val)) 0#32
      = BitVec.ofBool (decide (1 ≤ i.val * 28 + l.val / 224)) := by
    show BitVec.ofBool (decide _) = _
    congr 1
    simp only [BitVec.sle, hz, decide_eq_decide]
    simp
    omega
  have h2 : IntOp.cmpi CmpIPredicate.slt (BitVec.ofInt 32 (((i.val : ℤ) * 28 - 1) * 224 + l.val)) 50176#32
      = BitVec.ofBool (decide (i.val * 28 + l.val / 224 ≤ 224)) := by
    show BitVec.ofBool (decide _) = _
    congr 1
    simp only [BitVec.slt, hz, decide_eq_decide]
    simp
    omega
  rw [h1, h2]
  by_cases a : 1 ≤ i.val * 28 + l.val / 224 <;> by_cases b : i.val * 28 + l.val / 224 ≤ 224 <;> simp [a, b, IntOp.andi, FloatOps.sitofp]

theorem col_at (l : Fin 6720) :
    k2_pay5 (iota .tc S1x6720 32 [1] iota_S1x6720_d1_w32) (ix2 0 l) = BitVec.ofNat 32 (l.val % 224) := by
  pointwise [k2_pay5]
  have hs : Scalar.select (Scalar.cmpi CmpIPredicate.eq 224#32 0#32) 1#32 224#32 = 224#32 := by decide
  have hr : IntOp.remsi ArithUnit.vector (BitVec.ofNat 32 l.val) 224#32 = BitVec.ofNat 32 (l.val % 224) :=
    Routing.remsi_word .vector (by omega) (by decide) (by decide)
  have h0 : Scalar.cmpi CmpIPredicate.slt 224#32 0#32 = 0#1 := by decide
  have h1 : IntOp.cmpi CmpIPredicate.slt (BitVec.ofNat 32 (l.val % 224)) 0#32 = 0#1 := by
    word_cmp
  have h2 : ∀ b : BitVec 1, IntOp.andi (IntOp.xori 0#1 0#1) b = 0#1 := by decide
  rw [hs, hr, h0, h1, h2]
  rfl

theorem left_at (v38 : IVec S1x6720 32) (v37 : FVec Ideal S384x6720 .bf16) (c : Fin 384) (l : Fin 6720) :
    k2_pay6 (F := Ideal) (iota .tc S1x6720 32 [1] iota_S1x6720_d1_w32) v37 v38 (ix2 c l)
      = if l.val % 224 = 0 then 0 else k2_pay4 v37 v38 (ix2 c ⟨l.val - 1, by omega⟩) := by
  pointwise [k2_pay6]
  rw [col_at]
  by_cases h : l.val % 224 = 0
  · rw [if_pos h, h]; rfl
  · rw [if_neg h, dif_neg (by omega)]
    have : IntOp.cmpi CmpIPredicate.eq (BitVec.ofNat 32 (l.val % 224)) 0#32 = 0#1 := by word_cmp
    rw [this]; rfl

theorem right_at (v38 : IVec S1x6720 32) (v37 : FVec Ideal S384x6720 .bf16) (c : Fin 384) (l : Fin 6720) :
    k2_pay7 (F := Ideal) (iota .tc S1x6720 32 [1] iota_S1x6720_d1_w32) v37 v38 (ix2 c l)
      = if h : l.val % 224 = 223 then 0 else k2_pay4 v37 v38 (ix2 c ⟨1 + l.val, by omega⟩) := by
  pointwise [k2_pay7]
  rw [col_at]
  by_cases h : l.val % 224 = 223
  · rw [dif_pos h, h]; rfl
  · rw [dif_neg h, dif_pos (by omega)]
    have : IntOp.cmpi CmpIPredicate.eq (BitVec.ofNat 32 (l.val % 224)) 223#32 = 0#1 := by word_cmp
    rw [this]; rfl

/-- The activated basis of the image, one zero pixel around it: row `R` and column `Q` count from that border. -/
def img (c2 c3 : EReal) (X : Fin 96 → Fin 50176 → EReal) (R Q : ℕ) (c : Fin 384) : EReal :=
  if h : (1 ≤ R ∧ R ≤ 224) ∧ (1 ≤ Q ∧ Q ≤ 224) then
    phi c2 c3 (fun ch => X ch ⟨(R - 1) * 224 + (Q - 1), by omega⟩) c
  else 0

/-- Nine taps of a 3 by 3 window at row `r` and column `q` of an image with a border. -/
def conv (W : Fin 3 → Fin 3 → Fin 384 → EReal) (P : ℕ → ℕ → Fin 384 → EReal) (r q : ℕ) : EReal :=
  ∑ c, W 0 0 c * P r q c + ∑ c, W 0 1 c * P r (q + 1) c + ∑ c, W 0 2 c * P r (q + 2) c
    + ∑ c, W 1 0 c * P (r + 1) q c + ∑ c, W 1 1 c * P (r + 1) (q + 1) c + ∑ c, W 1 2 c * P (r + 1) (q + 2) c
    + ∑ c, W 2 0 c * P (r + 2) q c + ∑ c, W 2 1 c * P (r + 2) (q + 1) c + ∑ c, W 2 2 c * P (r + 2) (q + 2) c

section Point

variable (v0 v2 : FVec Ideal S1x1 .f32) (v4 v9 : FVec Ideal S1x96x896 .f32) (v7 : FVec Ideal S1x96x6272 .f32)
  (X : Fin 96 → Fin 50176 → EReal) (i : grid2.Coords)

/-- The three blocks a point reads are those of the image: the lanes inside it are its pixels. -/
def Reads : Prop :=
  ∀ (l : Fin 6720) (ch : Fin 96) (h : 1 ≤ (i 1).val * 28 + l.val / 224 ∧ (i 1).val * 28 + l.val / 224 ≤ 224),
    lane v4 v7 v9 l ch = X ch ⟨((i 1).val * 28 + l.val / 224 - 1) * 224 + l.val % 224, by omega⟩

variable {v0 v2 v4 v9 v7 X i}

theorem centre_at (hX : Reads v4 v9 v7 X i) (c : Fin 384) (l : Fin 6720) :
    k2_pay4 (F := Ideal) (k2_pay2 v0 v2 v4 v7 v9) (k2_pay3 i) (ix2 c l)
      = img (v0 (ix2 0 0)) (v2 (ix2 0 0)) X ((i 1).val * 28 + l.val / 224) (l.val % 224 + 1) c := by
  pointwise [k2_pay4, k2_pay3]
  rw [basis_at, mask_word (i 1) l]
  unfold img
  by_cases h : 1 ≤ (i 1).val * 28 + l.val / 224 ∧ (i 1).val * 28 + l.val / 224 ≤ 224
  · rw [if_pos h, dif_pos ⟨h, by omega, by omega⟩, mul_one]
    congr 1
    funext ch
    exact hX l ch h
  · rw [if_neg h, dif_neg (fun h' => h h'.1), mul_zero]

theorem left_img (hX : Reads v4 v9 v7 X i) (c : Fin 384) (l : Fin 6720) :
    k2_pay6 (F := Ideal) (iota .tc S1x6720 32 [1] iota_S1x6720_d1_w32) (k2_pay2 v0 v2 v4 v7 v9) (k2_pay3 i) (ix2 c l)
      = img (v0 (ix2 0 0)) (v2 (ix2 0 0)) X ((i 1).val * 28 + l.val / 224) (l.val % 224) c := by
  rw [left_at]
  by_cases h : l.val % 224 = 0
  · rw [if_pos h, img, dif_neg (by omega)]
  · rw [if_neg h, centre_at hX]
    congr 1 <;> simp only [] <;> omega

theorem right_img (hX : Reads v4 v9 v7 X i) (c : Fin 384) (l : Fin 6720) :
    k2_pay7 (F := Ideal) (iota .tc S1x6720 32 [1] iota_S1x6720_d1_w32) (k2_pay2 v0 v2 v4 v7 v9) (k2_pay3 i) (ix2 c l)
      = img (v0 (ix2 0 0)) (v2 (ix2 0 0)) X ((i 1).val * 28 + l.val / 224) (l.val % 224 + 2) c := by
  rw [right_at]
  by_cases h : l.val % 224 = 223
  · rw [dif_pos h, img, dif_neg (by omega)]
  · rw [dif_neg h, centre_at hX]
    congr 1 <;> simp only [] <;> omega

end Point

end Cert.Proof.Basis
end
-- ==== Proof.Conv.lean ====
/- The third region of the kernel convolves the activated basis of the image with the nine taps of the
   weights, 28 rows of pixels a point. -/
module

public import proofs.«01_k».proof.Proof.Basis

@[expose] public section

set_option maxRecDepth 16384
set_option synthInstance.maxSize 4096

noncomputable section

namespace Cert.Proof.Conv

open Idealize.ShloMosaic Idealize.ShloMosaic.TcCoe Idealize.SL.Sem
open Cert.KernelIdeal Cert.KernelIdeal.Gen
open Pipeline (Dat)
open Cert.Proof.Basis

/-- What a point stores, from the nine slices of the weights it reads. -/
theorem pay_at (v0 v2 : FVec Ideal S1x1 .f32) (v4 v9 : FVec Ideal S1x96x896 .f32) (v7 : FVec Ideal S1x96x6272 .f32)
    (X : Fin 96 → Fin 50176 → EReal) (i : grid2.Coords) (hX : Reads v4 v9 v7 X i)
    (w0 w1 w2 w3 w4 w5 w6 w7 w8 : FVec Ideal S1x1x96x384 .bf16) (s : FVec Ideal S1x1 .f32)
    (W : Fin 3 → Fin 3 → Fin 96 → Fin 384 → EReal)
    (h0 : ∀ o c, w0 (ix4 0 0 o c) = W 0 0 o c) (h1 : ∀ o c, w1 (ix4 0 0 o c) = W 0 1 o c) (h2 : ∀ o c, w2 (ix4 0 0 o c) = W 0 2 o c)
    (h3 : ∀ o c, w3 (ix4 0 0 o c) = W 1 0 o c) (h4 : ∀ o c, w4 (ix4 0 0 o c) = W 1 1 o c) (h5 : ∀ o c, w5 (ix4 0 0 o c) = W 1 2 o c)
    (h6 : ∀ o c, w6 (ix4 0 0 o c) = W 2 0 o c) (h7 : ∀ o c, w7 (ix4 0 0 o c) = W 2 1 o c) (h8 : ∀ o c, w8 (ix4 0 0 o c) = W 2 2 o c)
    (o : Fin 96) (l : Fin 6272) :
    k2_pay1 (F := Ideal) (k2_pay4 (k2_pay2 v0 v2 v4 v7 v9) (k2_pay3 i))
      (k2_pay7 (iota .tc S1x6720 32 [1] iota_S1x6720_d1_w32) (k2_pay2 v0 v2 v4 v7 v9) (k2_pay3 i))
      (k2_pay9 (k2_pay4 (k2_pay2 v0 v2 v4 v7 v9) (k2_pay3 i))
        (k2_pay6 (iota .tc S1x6720 32 [1] iota_S1x6720_d1_w32) (k2_pay2 v0 v2 v4 v7 v9) (k2_pay3 i))
        (k2_pay7 (iota .tc S1x6720 32 [1] iota_S1x6720_d1_w32) (k2_pay2 v0 v2 v4 v7 v9) (k2_pay3 i))
        (k2_pay8 (iota .tc S1x6720 32 [1] iota_S1x6720_d1_w32) (k2_pay2 v0 v2 v4 v7 v9) (k2_pay3 i) w0) w1 w2 w3 w4 w5 w6)
      w7 w8 s (ix3 0 o l)
    = conv (fun ky kx c => W ky kx o c) (img (v0 (ix2 0 0)) (v2 (ix2 0 0)) X)
        ((i 1).val * 28 + l.val / 224) (l.val % 224) * s (ix2 0 0) := by
  pointwise [k2_pay1, k2_pay9, k2_pay8]
  have e1 : (224 + l.val) / 224 = l.val / 224 + 1 := by omega
  have e2 : (448 + l.val) / 224 = l.val / 224 + 2 := by omega
  have e3 : (224 + l.val) % 224 = l.val % 224 := by omega
  have e4 : (448 + l.val) % 224 = l.val % 224 := by omega
  simp only [left_img hX, right_img hX, centre_at hX, h0, h1, h2, h3, h4, h5, h6, h7, h8, e1, e2, e3, e4, ← add_assoc]
  rfl

/-- The result of the region from the four arrays it reads: the two coefficients, the two scales, the image and the weights. -/
def convOut (cb : FVec Ideal S1x2 .f32) (s : FVec Ideal S2x1 .f32) (x : FVec Ideal S2x96x50176 .f32)
    (w : FVec Ideal S3x3x96x384 .bf16) : FVec Ideal S2x96x50176 .f32 :=
  fun j => conv (fun ky kx c => w (ix4 ky kx (j 1) c))
    (img (cb (ix2 0 0)) (cb (ix2 0 1)) (fun ch p => x (ix3 (j 0) ch p))) ((j 2).val / 224) ((j 2).val % 224) * s (ix2 (j 0) 0)

variable (V : (c : Dev nD) → (b : Ref sig .tc) → Buf (Elt Ideal) ((c : Thread nD τ).loc b))

theorem idx : ∀ t : Fin cfg2.N,
    win2_0.index t = ![0, 0] ∧ win2_1.index t = ![0, 0] ∧ win2_2.index t = ![t.val / 8, 0, t.val % 8 * 7 - 1]
      ∧ win2_3.index t = ![t.val / 8, 0, t.val % 8] ∧ win2_4.index t = ![t.val / 8, 0, min (t.val % 8 * 7 + 7) 55]
      ∧ win2_5.index t = ![0, 0, 0, 0] ∧ win2_6.index t = ![t.val / 8, 0, t.val % 8] :=
  (by decide +kernel : ∀ t : Fin grid2.N, _)

theorem crd : ∀ t : Fin cfg2.N, (grid2.coords t 0).val = t.val / 8 ∧ (grid2.coords t 1).val = t.val % 8 :=
  (by decide +kernel : ∀ t : Fin grid2.N, _)

/-- The four arrays the region reads, as it finds them. -/
abbrev cbArr (c : Dev nD) : FVec Ideal S1x2 .f32 := V c (Pipeline.arrRef spec2 0)
abbrev scArr (c : Dev nD) : FVec Ideal S2x1 .f32 := V c (Pipeline.arrRef spec2 1)
abbrev xArr (c : Dev nD) : FVec Ideal S2x96x50176 .f32 := V c (Pipeline.arrRef spec2 2)
abbrev wArr (c : Dev nD) : FVec Ideal S3x3x96x384 .bf16 := V c (Pipeline.arrRef spec2 5)

theorem off : ∀ t : Fin cfg2.N, k2_off1 (grid2.coords t) = ![t.val / 8, 0] :=
  (by decide +kernel : ∀ t : Fin grid2.N, _)

/-- The image of point `t`, as the region finds it. -/
abbrev image (c : Dev nD) (t : Fin cfg2.N) (ch : Fin 96) (p : Fin 50176) : EReal :=
  xArr V c
    (ix3 ⟨t.val / 8, by have := lt_of_lt_of_eq t.isLt N_2; omega⟩ ch p)

theorem reads (c : Dev nD) (t : Fin cfg2.N) :
    Reads (iblk2 V c 2 t) (iblk2 V c 4 t) (iblk2 V c 3 t) (image V c t) (grid2.coords t) := by
  have hN := lt_of_lt_of_eq t.isLt N_2
  intro l ch h
  have h8 := (crd t).2
  simp only [h8] at h ⊢
  unfold lane image
  by_cases h1 : l.val < 224
  · rw [dif_pos h1]
    blk_ext [iblk2, idx t]
  · rw [dif_neg h1]
    by_cases h2 : l.val - 224 < 6272
    · rw [dif_pos h2]
      blk_ext [iblk2, idx t]
    · rw [dif_neg h2]
      blk_ext [iblk2, idx t]

theorem w_at (c : Dev nD) (t : Fin cfg2.N) : (iblk2 V c 5 t : FVec Ideal S3x3x96x384 .bf16) = wArr V c := by
  funext j; blk_ext [iblk2, idx t]
theorem sc_at (c : Dev nD) (t : Fin cfg2.N) : (iblk2 V c 1 t : FVec Ideal S2x1 .f32) = scArr V c := by
  funext j; blk_ext [iblk2, idx t]
theorem cb_at (c : Dev nD) (t : Fin cfg2.N) : (iblk2 V c 0 t : FVec Ideal S1x2 .f32) = cbArr V c := by
  funext j; blk_ext [iblk2, idx t]

/-- The index of the result that lane `l` of channel `o` of point `t` lands at. -/
theorem out_idx (t : Fin cfg2.N) (o : Fin 96) (l : Fin 6272) :
    (((View.whole main_v18).slice (win2_6.rect t)).emb (ix3 0 o l) : S2x96x50176.Idx)
      = ix3 ⟨t.val / 8, by have := lt_of_lt_of_eq t.isLt N_2; omega⟩ o ⟨t.val % 8 * 6272 + l.val, by omega⟩ := by
  have hN := lt_of_lt_of_eq t.isLt N_2
  blk_ext [idx t]

/-- What the region leaves in its result. -/
theorem final (c : Dev nD) :
    (dat2 V c).arrAt 6 cfg2.N = convOut (cbArr V c) (scArr V c) (xArr V c) (wArr V c) := by
  refine (dat2 V c).arrAt_eq_of_covers 6 _ (by decide +kernel) fun t hf y => ?_
  blk_simp
  rw [after2_6]
  unfold outsAt2
  frame_out
  have hN := lt_of_lt_of_eq t.isLt N_2
  idx_vars y
  obtain rfl : y0 = 0 := Subsingleton.elim _ _
  refine (pay_at _ _ _ _ _ (image V c t) _ (reads V c t) _ _ _ _ _ _ _ _ _ _
    (fun ky kx o k => wArr V c (ix4 ky kx o k))
    ?_ ?_ ?_ ?_ ?_ ?_ ?_ ?_ ?_ y1 y2).trans ?_
  iterate 9
    · intro o k
      rw [w_at]
      generalize wArr V c = w
      pointwise
  rw [cb_at, sc_at, out_idx]
  have e1 : (t.val % 8 * 6272 + y2.val) / 224 = t.val % 8 * 28 + y2.val / 224 := by omega
  have e2 : (t.val % 8 * 6272 + y2.val) % 224 = y2.val % 224 := by omega
  simp only [off, (crd t).2]
  unfold image
  generalize cbArr V c = cb
  generalize scArr V c = sc
  pointwise [convOut]
  simp only [e1, e2]
  exact congrArg (fun z => _ * sc z) ((ix2_inj ..).2 ⟨Fin.ext (congrFun (off t) 0), Fin.ext (congrFun (off t) 1)⟩)

end Cert.Proof.Conv
end
-- ==== Proof.Run.lean ====
module

public import proofs.«01_k».proof.Proof.Gen.KernelIdeal.Frame
public import Idealize.ShloMosaic.Lib.Pipeline.ValueKit
public import Idealize.ShloMosaic.Lib.Claim
public import proofs.«01_k».proof.Proof.Sums
public import proofs.«01_k».proof.Proof.Gate
public import proofs.«01_k».proof.Proof.Conv

@[expose] public section

set_option maxRecDepth 16384
set_option synthInstance.maxSize 4096

noncomputable section

/- The kernel's program run whole: its two results as terms of the arguments, through the three launches and the
   reshapes, transposes and small products around them. -/
namespace Cert.Proof.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

local notation "𝕄" => MT nD τ sig Unit (Elt Ideal) ℕ (UR sig nD τ) ℕ

/-! ## The results as terms of the arguments -/

/-- The channel sums. -/
def sumsOf (x : FVec Ideal S2x96x224x224 .f32) : FVec Ideal S2x96 .f32 :=
  shapeCast S2x96 (Sums.rowSum (shapeCast S192x50176 x shapeCasts_S2x96x224x224_S192x50176)) shapeCasts_S192x1_S2x96

/-- The two coefficients the last launch reads. -/
def coefs (beta : FVec Ideal S4 .f32) : FVec Ideal S1x2 .f32 :=
  shapeCast S1x2
    (concatenate S2 0
      [⟨S1, broadcastInDim S1 ![] bcast_S_S1 (mulf (constant (F := Ideal) S_ .f32 0x40100000#32)
          (shapeCast S_ (extractStridedSlice S1 ![1] beta slices_S4_S1_1) shapeCasts_S1_S_))⟩,
       ⟨S1, broadcastInDim S1 ![] bcast_S_S1 (mulf (constant (F := Ideal) S_ .f32 0x42055555#32)
          (shapeCast S_ (extractStridedSlice S1 ![2] beta slices_S4_S1_2) shapeCasts_S1_S_))⟩] concatenates_S1_S1_S2_d0)
    shapeCasts_S2_S1x2

/-- The weights as the last launch reads them. -/
def wts (w : FVec Ideal S1x96x384x3x3 .f32) : FVec Ideal S3x3x96x384 .bf16 :=
  truncf .bf16 (transpose S3x3x96x384 [2, 3, 0, 1] (shapeCast S96x384x3x3 w shapeCasts_S1x96x384x3x3_S96x384x3x3)
    transposes_S96x384x3x3_S3x3x96x384_2_3_0_1) bitsLt_bf16_f32

/-- The kernel's first result. -/
def out (x : FVec Ideal S2x96x224x224 .f32) (w : FVec Ideal S1x96x384x3x3 .f32) (beta : FVec Ideal S4 .f32)
    (g : FVec Ideal S96x8 .f32) : FVec Ideal S2x96x224x224 .f32 :=
  shapeCast S2x96x224x224
    (Conv.convOut (coefs beta) (Gate.scales (sumsOf x) g) (shapeCast S2x96x50176 x shapeCasts_S2x96x224x224_S2x96x50176) (wts w))
    shapeCasts_S2x96x50176_S2x96x224x224

/-- The kernel's second result. -/
def lossVal (x : FVec Ideal S2x96x224x224 .f32) (g : FVec Ideal S96x8 .f32) : FVec Ideal S_ .f32 :=
  shapeCast S_ (Gate.lossOf (sumsOf x) g) shapeCasts_S1x1_S_

variable (m : (ℓ : Loc nD τ sig) → Buf (Elt Ideal) ℓ) (ρ : Dev nD → PrngReg)

/-- The arguments as launched. -/
abbrev arg0 (c : Dev nD) : FVec Ideal S2x96x224x224 .f32 := m ((c : Thread nD τ).loc main_arg0)
abbrev arg1 (c : Dev nD) : FVec Ideal S1x96x384x3x3 .f32 := m ((c : Thread nD τ).loc main_arg1)
abbrev arg2 (c : Dev nD) : FVec Ideal S4 .f32 := m ((c : Thread nD τ).loc main_arg2)
abbrev arg3 (c : Dev nD) : FVec Ideal S96x8 .f32 := m ((c : Thread nD τ).loc main_arg3)

/-! ## The contents at each boundary -/

theorem at1_v0 (c : Dev nD) : W1 m ρ c (Proc.devRef .tc main_v0)
    = shapeCast S2x96x50176 (arg0 m c) shapeCasts_S2x96x224x224_S2x96x50176 := by
  unfold W1; after_results; try rfl

theorem at1_v1 (c : Dev nD) : W1 m ρ c (Proc.devRef .tc main_v1)
    = shapeCast S192x50176 (arg0 m c) shapeCasts_S2x96x224x224_S192x50176 := by
  unfold W1; after_results; try rfl

theorem at2_v2 (c : Dev nD) : W2 m ρ c (Proc.devRef .tc main_v2)
    = Sums.rowSum (shapeCast S192x50176 (arg0 m c) shapeCasts_S2x96x224x224_S192x50176) :=
  (W2_arr m ρ c 1).trans ((Sums.final (V1 m ρ) c).trans (congrArg Sums.rowSum (at1_v1 m ρ c)))

theorem at3_v3 (c : Dev nD) : W3 m ρ c (Proc.devRef .tc main_v3) = sumsOf (arg0 m c) := by
  have h : W3 m ρ c (Proc.devRef .tc main_v3)
      = shapeCast S2x96 (W2 m ρ c (Proc.devRef .tc main_v2) : FVec Ideal S192x1 .f32) shapeCasts_S192x1_S2x96 := by
    unfold W3; after_results; try rfl
  rw [h, at2_v2]; rfl

theorem at4_scale (c : Dev nD) : W4 m ρ c (Proc.devRef .tc main_v4_0) = Gate.scales (sumsOf (arg0 m c)) (arg3 m c) :=
  (W4_arr m ρ c 2).trans ((Gate.finalScale (V3 m ρ) c).trans
    (congrArg₂ Gate.scales (at3_v3 m ρ c) (W3_args m ρ c main_arg3 (by decide))))

theorem at4_loss (c : Dev nD) : W4 m ρ c (Proc.devRef .tc main_v4_1) = Gate.lossOf (sumsOf (arg0 m c)) (arg3 m c) :=
  (W4_arr m ρ c 3).trans ((Gate.finalLoss (V3 m ρ) c).trans
    (congrArg₂ Gate.lossOf (at3_v3 m ρ c) (W3_args m ρ c main_arg3 (by decide))))

theorem at5_scale (c : Dev nD) : W5 m ρ c (Proc.devRef .tc main_v4_0) = Gate.scales (sumsOf (arg0 m c)) (arg3 m c) :=
  (W5_of m ρ c main_v4_0 (by decide)).trans (at4_scale m ρ c)

theorem at5_v0 (c : Dev nD) : W5 m ρ c (Proc.devRef .tc main_v0)
    = shapeCast S2x96x50176 (arg0 m c) shapeCasts_S2x96x224x224_S2x96x50176 :=
  (W5_of m ρ c main_v0 (by decide)).trans ((W4_of m ρ c main_v0 (by decide)).trans
    ((W3_of m ρ c main_v0 (by decide)).trans ((W2_of m ρ c main_v0 (by decide)).trans (at1_v0 m ρ c))))

theorem at5_coefs (c : Dev nD) : W5 m ρ c (Proc.devRef .tc main_v17) = coefs (arg2 m c) := by
  have h : W5 m ρ c (Proc.devRef .tc main_v17) = coefs (W4 m ρ c (Proc.devRef .tc main_arg2)) := by
    unfold W5; after_results; try rfl
  exact h.trans (congrArg coefs (W4_args m ρ c main_arg2 (by decide)))

theorem at5_wts (c : Dev nD) : W5 m ρ c (Proc.devRef .tc main_v7) = wts (arg1 m c) := by
  have h : W5 m ρ c (Proc.devRef .tc main_v7) = wts (W4 m ρ c (Proc.devRef .tc main_arg1)) := by
    unfold W5; after_results; try rfl
  exact h.trans (congrArg wts (W4_args m ρ c main_arg1 (by decide)))

theorem at6_v18 (c : Dev nD) : W6 m ρ c (Proc.devRef .tc main_v18)
    = Conv.convOut (coefs (arg2 m c)) (Gate.scales (sumsOf (arg0 m c)) (arg3 m c))
        (shapeCast S2x96x50176 (arg0 m c) shapeCasts_S2x96x224x224_S2x96x50176) (wts (arg1 m c)) := by
  refine (W6_arr m ρ c 6).trans ((Conv.final (V5 m ρ) c).trans ?_)
  have e0 : Conv.cbArr (V5 m ρ) c = coefs (arg2 m c) := at5_coefs m ρ c
  have e1 : Conv.scArr (V5 m ρ) c = Gate.scales (sumsOf (arg0 m c)) (arg3 m c) := at5_scale m ρ c
  have e2 : Conv.xArr (V5 m ρ) c = shapeCast S2x96x50176 (arg0 m c) shapeCasts_S2x96x224x224_S2x96x50176 := at5_v0 m ρ c
  have e3 : Conv.wArr (V5 m ρ) c = wts (arg1 m c) := at5_wts m ρ c
  rw [e0, e1, e2, e3]

theorem at7_out (c : Dev nD) : W7 m ρ c (Proc.devRef .tc main_v19) = out (arg0 m c) (arg1 m c) (arg2 m c) (arg3 m c) := by
  have h : W7 m ρ c (Proc.devRef .tc main_v19) = shapeCast S2x96x224x224
      (W6 m ρ c (Proc.devRef .tc main_v18) : FVec Ideal S2x96x50176 .f32) shapeCasts_S2x96x50176_S2x96x224x224 := by
    unfold W7; after_results; try rfl
  rw [h, at6_v18]; rfl

theorem at7_loss (c : Dev nD) : W7 m ρ c (Proc.devRef .tc main_v20) = lossVal (arg0 m c) (arg3 m c) := by
  have h : W7 m ρ c (Proc.devRef .tc main_v20) = shapeCast S_
      (W6 m ρ c (Proc.devRef .tc main_v4_1) : FVec Ideal S1x1 .f32) shapeCasts_S1x1_S_ := by
    unfold W7; after_results; try rfl
  have h6 : W6 m ρ c (Proc.devRef .tc main_v4_1) = Gate.lossOf (sumsOf (arg0 m c)) (arg3 m c) :=
    (W6_of m ρ c main_v4_1 (by decide)).trans ((W5_of m ρ c main_v4_1 (by decide)).trans (at4_loss m ρ c))
  rw [h, h6]; rfl

/-! ## The run -/

set_option backward.isDefEq.respectTransparency.types false in
/-- Every weakly fair run ends with the two results at their terms of the arguments, and the arguments unchanged. -/
theorem run : θ_run defs (onTc (τ := τ) (main (F := Ideal))) ⟨m, fun _ => 0, ρ⟩ (fun r => ∀ c : Dev nD,
      r.2.mem ((c.tc : Thread nD τ).loc main_v19) = out (arg0 m c) (arg1 m c) (arg2 m c) (arg3 m c)
      ∧ r.2.mem ((c.tc : Thread nD τ).loc main_v20) = lossVal (arg0 m c) (arg3 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h _ c =>
      ⟨(h c _ (mem_uc main_v19 (by decide))).trans (at7_out m ρ c),
       (h c _ (mem_uc main_v20 (by decide))).trans (at7_loss m ρ c),
       (h c _ (mem_uc main_arg0 (by decide))).trans (W7_main_arg0 m ρ c),
       (h c _ (mem_uc main_arg1 (by decide))).trans (W7_main_arg1 m ρ c),
       (h c _ (mem_uc main_arg2 (by decide))).trans (W7_main_arg2 m ρ c),
       (h c _ (mem_uc main_arg3 (by decide))).trans (W7_main_arg3 m ρ c)⟩)

end Cert.Proof.Run
end
-- ==== Proof.RefGate.lean ====
module

public import proofs.«01_k».proof.Proof.Gen.ReferenceIdeal.Run
public import Idealize.ShloMosaic.Lib.Pipeline.ValueKit
public import Idealize.ShloMosaic.Lib.Pointwise
public import Idealize.ShloMosaic.Lib.Routing.OpsSet
public import proofs.«01_k».proof.Proof.Route

@[expose] public section

set_option maxRecDepth 16384
set_option synthInstance.maxSize 4096

noncomputable section

/- The reference's gating: its gates, and its loss. -/
namespace Cert.Proof.RefGate

open Idealize.ShloMosaic Idealize.ShloMosaic.TcCoe Idealize.SL.Sem
open Cert.ReferenceIdeal Cert.ReferenceIdeal.Gen Cert.ReferenceIdeal.Value
open Cert.Proof.Route

/-- The gate's inputs for image `b`: the means of its channels, weighted. -/
def logits (x : FVec Ideal S2x96x224x224 .f32) (g : FVec Ideal S96x8 .f32) (b : Fin 2) (e : Fin 8) : EReal :=
  ∑ c : Fin 96, Ideal.div (∑ h : Fin 224, ∑ w : Fin 224, x (ix4 b c h w)) (Ideal.ofBits .f32 0x47440000#32) * g (ix2 c e)

variable (V : Valuation τ sig (Elt Ideal))

/-- The image and the gate's weights. -/
abbrev img : FVec Ideal S2x96x224x224 .f32 := V (Proc.devRef .tc main_arg0)
abbrev gate : FVec Ideal S96x8 .f32 := V (Proc.devRef .tc main_arg3)

theorem logits_at (b : Fin 2) (e : Fin 8) :
    (res_main_v3 V : FVec Ideal S2x8 .f32) (ix2 b e) = logits (img V) (gate V) b e := by
  unfold res_main_v3
  pointwise
  rfl

theorem expTerm (l : FVec Ideal S2x8 .f32) (b : Fin 2) (e : Fin 8) :
    Host.exp (subf l (broadcastInDim S2x8 ![0, 1] bcast_S2x1_S2x8_0_1 (broadcastInDim S2x1 ![0] bcast_S2_S2x1_0 (maximumf (broadcastInDim S2 ![] bcast_S_S2 (constant S_ .f32 0xFF800000#32)) (Host.reduce FloatOps.maximumf l (constant S_ .f32 0xFF800000#32) reducesTo_S2x8_S2_d1 h_S_))))) (ix2 b e)
      = Ideal.exp (l (ix2 b e) - best fun k => l (ix2 b k)) := by
  pointwise
  unfold best
  rw [Consts.neg_inf, max_eq_right bot_le]

theorem divTerm (u : FVec Ideal S2x8 .f32) (b : Fin 2) (e : Fin 8) :
    Host.divf u (broadcastInDim S2x8 ![0, 1] bcast_S2x1_S2x8_0_1 (broadcastInDim S2x1 ![0] bcast_S2_S2x1_0 (Host.reduceAdd u (constant S_ .f32 0x00000000#32) reducesTo_S2x8_S2_d1 h_S_))) (ix2 b e)
      = Ideal.div (u (ix2 b e)) (∑ k, u (ix2 b k)) := by
  pointwise

/-- The softmax of image `b`. -/
abbrev prob (b : Fin 2) : Fin 8 → EReal := probs (logits (img V) (gate V) b)

theorem prob_at (b : Fin 2) (e : Fin 8) : (res_main_v14 V : FVec Ideal S2x8 .f32) (ix2 b e) = prob V b e := by
  have h : ∀ k, (res_main_v10 V : FVec Ideal S2x8 .f32) (ix2 b k)
      = Ideal.exp (logits (img V) (gate V) b k - best (logits (img V) (gate V) b)) := fun k => by
    refine (expTerm (res_main_v3 V) b k).trans ?_
    simp only [logits_at]
  refine (divTerm (res_main_v10 V) b e).trans ?_
  simp only [h]
  rfl

theorem order_eq (p : Fin 8 → EReal) (b : Fin 2) (l : FVec Ideal S2x8 .f32) (h : ∀ e, l (ix2 b e) = p e) :
    (fun k k' : Fin 8 => FloatOps.cmpfTotal CmpDirection.gt (l (ix2 b k)) (l (ix2 b k')) == 1#1)
      = fun k k' => decide (p k' < p k) := by
  funext k k'
  rw [h, h, Ideal.cmpfTotal_def]
  show (Ideal.cmp .ogt (p k) (p k') == 1#1) = _
  by_cases hk : p k' < p k <;> simp [Ideal.cmp, CmpDirection.ordered, hk]

theorem along_eq (b : Fin 2) (r k : Fin 8) : (ix2 b r : S2x8.Idx).along 1 k = ix2 b k := by
  funext a
  fin_cases a <;> rfl

theorem valTerm (l : FVec Ideal S2x8 .f32) (b : Fin 2) (r : Fin 2) :
    extractStridedSlice S2x2 ![0, 0] ((Host.topK S2x3 1 (FloatOps.cmpfTotal .gt) l sliceFits_S2x8_S2x3).1) slices_S2x3_S2x2_0_0 (ix2 b r)
      = l (ix2 b (nth (fun e => l (ix2 b e)) r)) := by
  pointwise [Host.topK, Host.sort2]
  simp only [along_eq, order_eq _ b l fun _ => rfl]
  rfl

theorem idxTerm (l : FVec Ideal S2x8 .f32) (b : Fin 2) (r : Fin 2) :
    extractStridedSlice S2x2 ![0, 0] ((Host.topK S2x3 1 (FloatOps.cmpfTotal .gt) l sliceFits_S2x8_S2x3).2) slices_S2x3_S2x2_0_0 (ix2 b r)
      = BitVec.ofNat 32 (nth (fun e => l (ix2 b e)) r).val := by
  pointwise [Host.topK, Host.sort2]
  simp only [along_eq, order_eq _ b l fun _ => rfl]
  rfl

theorem shareTerm (v : FVec Ideal S2x2 .f32) (b r : Fin 2) :
    Host.divf v (broadcastInDim S2x2 ![0, 1] bcast_S2x1_S2x2_0_1 (addf (broadcastInDim S2x1 ![0] bcast_S2_S2x1_0 (Host.reduceAdd v (constant S_ .f32 0x00000000#32) reducesTo_S2x2_S2_d1 h_S_)) (broadcastInDim S2x1 ![] bcast_S_S2x1 (constant S_ .f32 0x358637BD#32)))) (ix2 b r)
      = Ideal.div (v (ix2 b r)) ((v (ix2 b 0) + v (ix2 b 1)) + Ideal.ofBits .f32 0x358637BD#32) := by
  pointwise
  rw [Fin.sum_univ_two]

theorem rowWord (b : Fin 2) :
    Scalar.select (IntOp.cmpi .slt (BitVec.ofNat 32 b.val) 0#32) (IntOp.addi (BitVec.ofNat 32 b.val) 2#32) (BitVec.ofNat 32 b.val)
      = BitVec.ofNat 32 b.val := by
  revert b; decide
theorem colWord (e : Fin 8) :
    Scalar.select (IntOp.cmpi .slt (BitVec.ofNat 32 e.val) 0#32) (IntOp.addi (BitVec.ofNat 32 e.val) 8#32) (BitVec.ofNat 32 e.val)
      = BitVec.ofNat 32 e.val := by
  revert e; decide

/-- The scatter's two index words. -/
abbrev words (row : IVec S2x1 32) (ind : IVec S2x2 32) : IVec S2x2x2 32 :=
    concatenate S2x2x2 2 [⟨S2x2x1, (broadcastInDim S2x2x1 ![0, 1] bcast_S2x2_S2x2x1_0_1 (broadcastInDim S2x2 ![0, 1] bcast_S2x1_S2x2_0_1 (select (cmpi .slt row (broadcastInDim S2x1 ![] bcast_S_S2x1 (constantI S_ 32 0#32))) (addi row (broadcastInDim S2x1 ![] bcast_S_S2x1 (constantI S_ 32 2#32))) row)))⟩, ⟨S2x2x1, (broadcastInDim S2x2x1 ![0, 1] bcast_S2x2_S2x2x1_0_1 (select (cmpi .slt ind (broadcastInDim S2x2 ![] bcast_S_S2x2 (constantI S_ 32 0#32))) (addi ind (broadcastInDim S2x2 ![] bcast_S_S2x2 (constantI S_ 32 8#32))) ind))⟩] concatenates_S2x2x1_S2x2x1_S2x2x2_d2

theorem row_at (row : IVec S2x1 32) (ind : IVec S2x2 32) (b r : Fin 2) (h : row (ix2 b 0) = BitVec.ofNat 32 b.val) :
    words row ind (ix3 b r 0) = BitVec.ofNat 32 b.val := by
  unfold words
  pointwise
  rw [h]
  exact rowWord b
theorem col_at (row : IVec S2x1 32) (ind : IVec S2x2 32) (b r : Fin 2) (e : Fin 8) (h : ind (ix2 b r) = BitVec.ofNat 32 e.val) :
    words row ind (ix3 b r 1) = BitVec.ofNat 32 e.val := by
  unfold words
  pointwise
  rw [h]
  exact colWord e

theorem toInt2 (b : Fin 2) : (BitVec.ofNat 32 b.val).toInt = b.val := by revert b; decide

theorem lands (idx : IVec S2x2x2 32) (p : Fin 2 → Fin 2 → Fin 8) (h0 : ∀ b r, idx (ix3 b r 0) = BitVec.ofNat 32 b.val)
    (h1 : ∀ b r, idx (ix3 b r 1) = BitVec.ofNat 32 (p b r).val) (a r b : Fin 2) (e : Fin 8) :
    scatter_S2x8_S2x2x2_S2x2_n_01_01_2.resultIdx? (ix2 a r) idx = some (ix2 b e) ↔ a = b ∧ p a r = e := by
  refine (Routing.scatter_lands2 scatter_S2x8_S2x2x2_S2x2_n_01_01_2 rfl rfl rfl idx a r b e).trans ?_
  rw [show idx (ValueIdx.ix3 a r 0) = _ from h0 a r, show idx (ValueIdx.ix3 a r 1) = _ from h1 a r, toInt2, ofNat_toInt]
  refine and_congr ⟨fun h => Fin.ext (by exact_mod_cast h), fun h => by rw [h]⟩ ⟨fun h => Fin.ext (by exact_mod_cast h), fun h => by rw [h]⟩

theorem two (q : Fin 2 → Fin 8) (hq : q 0 ≠ q 1) : ∀ k r : Fin 2, q k = q r → k = r := by
  intro k r h
  fin_cases k <;> fin_cases r <;> simp_all

theorem scatterTerm (z : FVec Ideal S2x8 .f32) (hz : ∀ b e, z (ix2 b e) = 0) (upd : FVec Ideal S2x2 .f32)
    (idx : IVec S2x2x2 32) (p : Fin 2 → Fin 2 → Fin 8) (h0 : ∀ b r, idx (ix3 b r 0) = BitVec.ofNat 32 b.val)
    (h1 : ∀ b r, idx (ix3 b r 1) = BitVec.ofNat 32 (p b r).val) (hp : ∀ b, p b 0 ≠ p b 1) (b : Fin 2) (e : Fin 8) :
    Host.scatter scatter_S2x8_S2x2x2_S2x2_n_01_01_2 (fun _ b => b) z idx upd (ix2 b e)
      = if e = p b 0 then upd (ix2 b 0) else if e = p b 1 then upd (ix2 b 1) else 0 := by
  have hit : ∀ r, e = p b r → Host.scatter scatter_S2x8_S2x2x2_S2x2_n_01_01_2 (fun _ b => b) z idx upd (ix2 b e) = upd (ix2 b r) := by
    intro r hr
    refine Routing.scatter_set_hit _ _ _ _ _ _ (fun k hk => ?_) (ix2 b r) ((lands idx p h0 h1 b r b e).2 ⟨rfl, hr.symm⟩)
    idx_vars k
    obtain ⟨rfl, h⟩ := (lands idx p h0 h1 k0 k1 b e).1 hk
    have : k1 = r := two (p k0) (hp k0) k1 r (h.trans hr)
    rw [this]
  by_cases e0 : e = p b 0
  · rw [if_pos e0, hit 0 e0]
  by_cases e1 : e = p b 1
  · rw [if_neg e0, if_pos e1, hit 1 e1]
  rw [if_neg e0, if_neg e1, ← hz b e]
  refine Routing.scatter_set_miss _ _ _ _ _ fun k hk => ?_
  idx_vars k
  obtain ⟨rfl, h⟩ := (lands idx p h0 h1 k0 k1 b e).1 hk
  fin_cases k1
  · exact e0 h.symm
  · exact e1 h.symm

theorem gates_at (b : Fin 2) (e : Fin 8) : (res_main_v40 V : FVec Ideal S2x8 .f32) (ix2 b e) = gates (prob V b) e := by
  have hp : ∀ b : Fin 2, (fun e => (res_main_v14 V : FVec Ideal S2x8 .f32) (ix2 b e)) = prob V b := fun b =>
    funext fun e => prob_at V b e
  have hv : ∀ b r, (res_main_v15 V : FVec Ideal S2x2 .f32) (ix2 b r) = prob V b (nth (prob V b) r) := fun b r => by
    refine (valTerm (res_main_v14 V) b r).trans ?_
    rw [hp, prob_at]
  have hi : ∀ b r, (res_main_v16 V : IVec S2x2 32) (ix2 b r) = BitVec.ofNat 32 (nth (prob V b) r).val := fun b r => by
    refine (idxTerm (res_main_v14 V) b r).trans ?_
    rw [hp]
  refine (scatterTerm _ (fun b e => by pointwise) _ (words (res_main_v25 V) (res_main_v16 V)) (fun b r => nth (prob V b) r)
    (fun b r => row_at _ _ b r ?_) (fun b r => col_at _ _ b r _ (hi b r)) (fun b => nth_ne _) b e).trans ?_
  · unfold res_main_v25
    pointwise
  · rw [shareTerm (res_main_v15 V), shareTerm (res_main_v15 V)]
    simp only [hv]
    rfl

theorem cvTerm (l : FVec Ideal S8 .f32) (p : Fin 8 → EReal) (h : ∀ e, l (ix1 e) = p e)
    (n : FVec Ideal S_ .f32) (hn : n = subf (constant S_ .f32 0x41000000#32) (sitofp .f32 (constantI S_ 32 1#32)))
    (d : FVec Ideal S8 .f32) (hd : d = subf l (broadcastInDim S8 ![0] bcast_S1_S8_0 (Host.divf (broadcastInDim S1 ![] bcast_S_S1 (Host.reduceAdd l (constant S_ .f32 0x00000000#32) reducesTo_S8_S_d0 h_S_)) (broadcastInDim S1 ![] bcast_S_S1 (constant S_ .f32 0x41000000#32)))))
    (m : FVec Ideal S_ .f32) (hm : m = Host.divf (Host.reduceAdd l (constant S_ .f32 0x00000000#32) reducesTo_S8_S_d0 h_S_) (constant S_ .f32 0x41000000#32)) :
    Host.divf (select (cmpf .ogt n (constant S_ .f32 0x00000000#32)) (Host.divf (Host.reduceAdd (mulf d d) (constant S_ .f32 0x00000000#32) reducesTo_S8_S_d0 h_S_) n) (id (constant S_ .f32 0x7FC00000#32))) (addf (mulf m m) (constant S_ .f32 0x2EDBE6FF#32)) ix0 = cv2 p := by
  subst hn hd hm
  pointwise
  simp only [h]
  have e7 : Ideal.ofBits .f32 0x41000000#32 - FloatOps.sitofp (F := Ideal) .f32 1#32 = Ideal.ofBits .f32 0x40E00000#32 := by
    rw [Consts.eight, Consts.seven]
    show ((8 : ℝ) : EReal) - (((1#32 : BitVec 32).toInt : ℝ) : EReal) = ((7 : ℝ) : EReal)
    rw [← EReal.coe_sub]
    norm_num
  have pos : (0 : EReal) < Ideal.ofBits .f32 0x40E00000#32 := by
    rw [Consts.seven]
    exact_mod_cast (by norm_num : (0 : ℝ) < 7)
  rw [e7, if_pos pos]
  rfl

theorem used_at (z : EReal) : FloatOps.uitofp (F := Ideal) .f32 (BitVec.ofBool (decide (0 < z))) = used z := by
  unfold used
  by_cases h : 0 < z <;> simp [h, FloatOps.uitofp]

theorem load_at (l : FVec Ideal S2x8 .f32) (e : Fin 8) :
    Host.reduceAdd (F := Ideal) (φ := .f32) (uitofp .f32 (cmpf .ogt l (broadcastInDim S2x8 ![] bcast_S_S2x8 (constant S_ .f32 0x00000000#32)))) (constant S_ .f32 0x00000000#32) reducesTo_S2x8_S8_d0 h_S_ (ix1 e)
      = ∑ b : Fin 2, used (l (ix2 b e)) := by
  pointwise
  simp only [used_at]

theorem imp_at (l : FVec Ideal S2x8 .f32) (e : Fin 8) :
    Host.reduceAdd l (constant S_ .f32 0x00000000#32) reducesTo_S2x8_S8_d0 h_S_ (ix1 e) = ∑ b : Fin 2, l (ix2 b e) := by
  pointwise

/-- The reference's loss, as it is printed. -/
theorem loss_at :
    mulf (addf (Host.divf (select (cmpf .ogt (res_main_call0_v8 V) (constant S_ .f32 0x00000000#32)) (Host.divf (Host.reduceAdd (mulf (res_main_call0_v5 V) (res_main_call0_v5 V)) (constant S_ .f32 0x00000000#32) reducesTo_S8_S_d0 h_S_) (res_main_call0_v8 V)) (id (constant S_ .f32 0x7FC00000#32))) (addf (mulf (res_main_v48 V) (res_main_v48 V)) (constant S_ .f32 0x2EDBE6FF#32))) (Host.divf (select (cmpf .ogt (res_main_call1_v8 V) (constant S_ .f32 0x00000000#32)) (Host.divf (Host.reduceAdd (mulf (res_main_call1_v5 V) (res_main_call1_v5 V)) (constant S_ .f32 0x00000000#32) reducesTo_S8_S_d0 h_S_) (res_main_call1_v8 V)) (id (constant S_ .f32 0x7FC00000#32))) (addf (mulf (res_main_v54 V) (res_main_v54 V)) (constant S_ .f32 0x2EDBE6FF#32)))) (constant S_ .f32 0x3C23D70A#32)
      = fun _ => loss fun b e => gates (prob V b) e := by
  refine funext fun j : S_.Idx => ?_
  obtain rfl : j = ix0 := Subsingleton.elim _ _
  have h0 := cvTerm (res_main_v45 V) (fun e => ∑ b, gates (prob V b) e)
    (fun e => (imp_at (res_main_v40 V) e).trans (Finset.sum_congr rfl fun b _ => gates_at V b e))
    (res_main_call0_v8 V) rfl (res_main_call0_v5 V) rfl (res_main_v48 V) rfl
  have h1 := cvTerm (res_main_v44 V) (fun e => ∑ b, used (gates (prob V b) e))
    (fun e => (load_at (res_main_v40 V) e).trans (Finset.sum_congr rfl fun b _ => congrArg used (gates_at V b e)))
    (res_main_call1_v8 V) rfl (res_main_call1_v5 V) rfl (res_main_v54 V) rfl
  unfold loss
  rw [← h0, ← h1]
  rfl

/-- The scale of each image. -/
theorem scale_at (b : Fin 2) :
    Host.reduceAdd (res_main_v40 V) (constant S_ .f32 0x00000000#32) reducesTo_S2x8_S2_d1 h_S_ (ix1 b) = ∑ e, gates (prob V b) e := by
  have h : ∀ l : FVec Ideal S2x8 .f32, Host.reduceAdd l (constant S_ .f32 0x00000000#32) reducesTo_S2x8_S2_d1 h_S_ (ix1 b)
      = ∑ e, l (ix2 b e) := fun l => by pointwise
  exact (h _).trans (Finset.sum_congr rfl fun e _ => gates_at V b e)

end Cert.Proof.RefGate
end
-- ==== Proof.RefConv.lean ====
module

public import proofs.«01_k».proof.Proof.RefGate
public import proofs.«01_k».proof.Proof.Basis

@[expose] public section

set_option maxRecDepth 16384
set_option synthInstance.maxSize 4096

noncomputable section

/- The reference's convolution: the basis, the padded picture of it, and the nine taps. -/
namespace Cert.Proof.RefConv

open Idealize.ShloMosaic Idealize.ShloMosaic.TcCoe Idealize.SL.Sem
open Cert.ReferenceIdeal Cert.ReferenceIdeal.Gen Cert.ReferenceIdeal.Value

open Cert.Proof.Basis (phi poly img conv)

/-- The two coefficients. -/
def co2 (β : FVec Ideal S4 .f32) : EReal := Ideal.ofBits .f32 0x40100000#32 * β (ix1 1)
def co3 (β : FVec Ideal S4 .f32) : EReal := Ideal.ofBits .f32 0x42055555#32 * β (ix1 2)

/-! ## The basis -/

/-- Two coefficients that aren't infinities of opposite signs. -/
def Tame (c2 c3 : EReal) : Prop := (∃ r : ℝ, c2 = r) ∨ (∃ r : ℝ, c3 = r) ∨ c2 = c3

/-- One degree's recurrence is the product the kernel takes, for a finite value and such coefficients. -/
theorem cubic (t : ℝ) (c2 c3 : EReal) (h : Tame c2 c3) :
    (t : EReal) * (t * t - c2) - c3 * t = t * (t * t - c2 - c3) := by
  rcases h with ⟨r, rfl⟩ | ⟨r, rfl⟩ | rfl
  · induction c3 with
    | coe q => norm_cast; ring
    | top =>
      rcases lt_trichotomy t 0 with ht | rfl | ht
      · simp only [← EReal.coe_mul, ← EReal.coe_sub, EReal.top_mul_coe_of_neg ht, EReal.sub_top, EReal.coe_mul_bot_of_neg ht, EReal.coe_sub_bot]
      · simp
      · simp only [← EReal.coe_mul, ← EReal.coe_sub, EReal.top_mul_coe_of_pos ht, EReal.sub_top, EReal.coe_mul_bot_of_pos ht]
    | bot =>
      rcases lt_trichotomy t 0 with ht | rfl | ht
      · simp only [← EReal.coe_mul, ← EReal.coe_sub, EReal.bot_mul_coe_of_neg ht, EReal.sub_top, EReal.coe_sub_bot, EReal.coe_mul_top_of_neg ht]
      · simp
      · simp only [← EReal.coe_mul, ← EReal.coe_sub, EReal.bot_mul_coe_of_pos ht, EReal.coe_sub_bot, EReal.coe_mul_top_of_pos ht]
  · induction c2 with
    | coe q => norm_cast; ring
    | top =>
      rcases lt_trichotomy t 0 with ht | rfl | ht
      · simp only [← EReal.coe_mul, EReal.sub_top, EReal.bot_sub, EReal.coe_mul_bot_of_neg ht, EReal.top_sub_coe]
      · simp
      · simp only [← EReal.coe_mul, EReal.sub_top, EReal.bot_sub, EReal.coe_mul_bot_of_pos ht]
    | bot =>
      rcases lt_trichotomy t 0 with ht | rfl | ht
      · simp only [← EReal.coe_mul, EReal.coe_sub_bot, EReal.top_sub_coe, EReal.coe_mul_top_of_neg ht, EReal.bot_sub]
      · simp
      · simp only [← EReal.coe_mul, EReal.coe_sub_bot, EReal.top_sub_coe, EReal.coe_mul_top_of_pos ht]
  · induction c2 with
    | coe q => norm_cast; ring
    | top =>
      rcases lt_trichotomy t 0 with ht | rfl | ht
      · simp only [← EReal.coe_mul, EReal.sub_top, EReal.coe_mul_bot_of_neg ht, EReal.top_mul_coe_of_neg ht, EReal.top_sub_bot]
      · simp
      · simp only [← EReal.coe_mul, EReal.sub_top, EReal.coe_mul_bot_of_pos ht, EReal.top_mul_coe_of_pos ht]
    | bot =>
      rcases lt_trichotomy t 0 with ht | rfl | ht
      · simp only [← EReal.coe_mul, EReal.coe_sub_bot, EReal.coe_mul_top_of_neg ht, EReal.bot_mul_coe_of_neg ht, EReal.sub_top, EReal.top_sub_bot]
      · simp
      · simp only [← EReal.coe_mul, EReal.coe_sub_bot, EReal.coe_mul_top_of_pos ht, EReal.bot_mul_coe_of_pos ht, EReal.top_sub_bot]

theorem tanh_real (x : EReal) : ∃ t : ℝ, Ideal.tanh x = t := by
  induction x with
  | coe r => exact ⟨_, rfl⟩
  | top => exact ⟨1, rfl⟩
  | bot => exact ⟨-1, rfl⟩

theorem quadTerm (β : FVec Ideal S4 .f32) (o t : FVec Ideal S2x96x224x224 .f32) (b : Fin 2) (c : Fin 96) (h w : Fin 224)
    (ho : o (ix4 b c h w) = 1) :
    (subf (mulf t t) (mulf (broadcastInDim S2x96x224x224 ![] bcast_S_S2x96x224x224 (mulf (constant S_ .f32 0x40100000#32) (shapeCast S_ (extractStridedSlice S1 ![1] β slices_S4_S1_1) shapeCasts_S1_S_))) o)) (ix4 b c h w)
      = t (ix4 b c h w) * t (ix4 b c h w) - co2 β := by
  pointwise
  rw [ho, mul_one]
  rfl

theorem cubicTerm (β : FVec Ideal S4 .f32) (t q : FVec Ideal S2x96x224x224 .f32) (b : Fin 2) (c : Fin 96) (h w : Fin 224) :
    ((subf (mulf t q) (mulf (broadcastInDim S2x96x224x224 ![] bcast_S_S2x96x224x224 (mulf (constant S_ .f32 0x42055555#32) (shapeCast S_ (extractStridedSlice S1 ![2] β slices_S4_S1_2) shapeCasts_S1_S_))) t))) (ix4 b c h w)
      = t (ix4 b c h w) * q (ix4 b c h w) - co3 β * t (ix4 b c h w) := by
  pointwise
  rfl

theorem catTerm (o t q k : FVec Ideal S2x96x224x224 .f32) (b : Fin 2) (c : Fin 384) (h w : Fin 224) :
    (concatenate S2x384x224x224 1 [⟨S2x96x224x224, (o : (⟨S2x96x224x224, .f32⟩ : BufTy).Contents (Elt Ideal))⟩, ⟨S2x96x224x224, (t : (⟨S2x96x224x224, .f32⟩ : BufTy).Contents (Elt Ideal))⟩, ⟨S2x96x224x224, (q : (⟨S2x96x224x224, .f32⟩ : BufTy).Contents (Elt Ideal))⟩, ⟨S2x96x224x224, (k : (⟨S2x96x224x224, .f32⟩ : BufTy).Contents (Elt Ideal))⟩] concatenates_S2x96x224x224_S2x96x224x224_S2x96x224x224_S2x96x224x224_S2x384x224x224_d1 : (⟨S2x384x224x224, .f32⟩ : BufTy).Contents (Elt Ideal))
      (ix4 b c h w)
      = if _ : c.val < 96 then o (ix4 b ⟨c.val, by omega⟩ h w)
        else if _ : c.val - 96 < 96 then t (ix4 b ⟨c.val - 96, by omega⟩ h w)
        else if _ : c.val - 96 - 96 < 96 then q (ix4 b ⟨c.val - 96 - 96, by omega⟩ h w)
        else k (ix4 b ⟨c.val - 96 - 96 - 96, by omega⟩ h w) := by
  pointwise

theorem padTerm (u : FVec Ideal S2x384x224x224 .f32) (b : Fin 2) (c : Fin 384) (h w : Fin 226) :
    (pad S2x384x226x226 ![0, 0, 1, 1] ![0, 0, 1, 1] ![0, 0, 0, 0] (mulf u (Host.divf (broadcastInDim S2x384x224x224 ![] bcast_S_S2x384x224x224 (constant S_ .f32 0x3F800000#32)) (addf (broadcastInDim S2x384x224x224 ![] bcast_S_S2x384x224x224 (constant S_ .f32 0x3F800000#32)) (Host.exp (Host.negf u))))) (sitofp .f32 (constantI S_ 32 0#32)) pads_S2x384x224x224_S2x384x226x226_000_000_110_110 h_S_) (ix4 b c h w)
      = if _ : (1 ≤ h.val ∧ h.val - 1 < 224) ∧ 1 ≤ w.val ∧ w.val - 1 < 224 then
          u (ix4 b c ⟨h.val - 1, by omega⟩ ⟨w.val - 1, by omega⟩) * Ideal.logistic (u (ix4 b c ⟨h.val - 1, by omega⟩ ⟨w.val - 1, by omega⟩))
        else 0 := by
  pointwise
  have z : FloatOps.sitofp (F := Ideal) .f32 0#32 = 0 := by simp [FloatOps.sitofp]
  rw [z]
  rfl

variable (V : Valuation τ sig (Elt Ideal))

/-- The weights of the polynomials and of the taps. -/
abbrev beta : FVec Ideal S4 .f32 := V (Proc.devRef .tc main_arg2)
abbrev taps : FVec Ideal S1x96x384x3x3 .f32 := V (Proc.devRef .tc main_arg1)

theorem one_at (j : S2x96x224x224.Idx) : (res_main_v61 V : FVec Ideal S2x96x224x224 .f32) j = (1 : EReal) := by
  unfold res_main_v61
  pointwise

theorem tanh_at (b : Fin 2) (c : Fin 96) (h w : Fin 224) :
    (res_main_v60 V : FVec Ideal S2x96x224x224 .f32) (ix4 b c h w) = Ideal.tanh (RefGate.img V (ix4 b c h w)) := by
  unfold res_main_v60
  pointwise

theorem quad_at (b : Fin 2) (c : Fin 96) (h w : Fin 224) :
    (res_main_v68 V : FVec Ideal S2x96x224x224 .f32) (ix4 b c h w)
      = Ideal.tanh (RefGate.img V (ix4 b c h w)) * Ideal.tanh (RefGate.img V (ix4 b c h w)) - co2 (beta V) := by
  rw [← tanh_at]
  exact quadTerm (beta V) (res_main_v61 V) (res_main_v60 V) b c h w (one_at V _)

/-- The four polynomials of a pixel before their activation, as the kernel has them. -/
def basis (c2 c3 : EReal) (x : Fin 96 → EReal) (c : Fin 384) : EReal :=
  if c.val < 96 then 1 else poly c2 c3 x ⟨c.val - 96, by omega⟩

theorem basis_at (hf : Tame (co2 (beta V)) (co3 (beta V))) (b : Fin 2) (c : Fin 384) (h w : Fin 224) :
    (res_main_v76 V : FVec Ideal S2x384x224x224 .f32) (ix4 b c h w)
      = basis (co2 (beta V)) (co3 (beta V)) (fun ch => RefGate.img V (ix4 b ch h w)) c := by
  unfold res_main_v76
  refine (catTerm _ _ _ _ b c h w).trans ?_
  unfold basis poly
  by_cases h0 : c.val < 96
  · rw [dif_pos h0, if_pos h0, one_at]
  rw [dif_neg h0, if_neg h0]
  by_cases h1 : c.val - 96 < 96
  · rw [dif_pos h1, dif_pos h1, tanh_at]
  rw [dif_neg h1, dif_neg h1]
  by_cases h2 : c.val - 96 - 96 < 96
  · rw [dif_pos h2, dif_pos h2, quad_at]
  rw [dif_neg h2, dif_neg h2]
  refine (cubicTerm (beta V) (res_main_v60 V) (res_main_v68 V) b _ h w).trans ?_
  rw [quad_at, tanh_at]
  obtain ⟨t, ht⟩ := tanh_real (RefGate.img V (ix4 b ⟨c.val - 96 - 96 - 96, by omega⟩ h w))
  simp only [ht]
  exact cubic t _ _ hf

theorem act (c2 c3 : EReal) (x : Fin 96 → EReal) (c : Fin 384) :
    basis c2 c3 x c * Ideal.logistic (basis c2 c3 x c) = phi c2 c3 x c := by
  unfold basis phi
  by_cases h0 : c.val < 96
  · rw [dif_pos h0, if_pos h0, one_mul]
  · rw [dif_neg h0, if_neg h0]

/-- Image `b` by channel and flat position. -/
def flat (x : FVec Ideal S2x96x224x224 .f32) (b : Fin 2) (ch : Fin 96) (p : Fin 50176) : EReal :=
  x (ix4 b ch ⟨p.val / 224, by omega⟩ ⟨p.val % 224, by omega⟩)

theorem pad_at (hf : Tame (co2 (beta V)) (co3 (beta V))) (b : Fin 2) (c : Fin 384) (h w : Fin 226) :
    (res_main_v79 V : FVec Ideal S2x384x226x226 .f32) (ix4 b c h w)
      = img (co2 (beta V)) (co3 (beta V)) (flat (RefGate.img V) b) h.val w.val c := by
  refine (padTerm (res_main_v76 V) b c h w).trans ?_
  unfold img
  by_cases hc : (1 ≤ h.val ∧ h.val ≤ 224) ∧ (1 ≤ w.val ∧ w.val ≤ 224)
  · rw [dif_pos hc, dif_pos (by omega), basis_at V hf, act]
    refine congrArg (fun x => phi _ _ x c) (funext fun ch => ?_)
    unfold flat
    refine congrArg₂ (fun p q => RefGate.img V (ix4 b ch p q)) (Fin.ext ?_) (Fin.ext ?_)
    · show h.val - 1 = ((h.val - 1) * 224 + (w.val - 1)) / 224
      omega
    · show w.val - 1 = ((h.val - 1) * 224 + (w.val - 1)) % 224
      omega
  · rw [dif_neg hc, dif_neg (by omega)]

theorem wt_at (o : Fin 96) (c : Fin 384) (y x : Fin 3) :
    (res_main_v78 V : FVec Ideal S96x384x3x3 .f32) (ix4 o c y x) = (taps V (ix5 0 o c y x) : EReal) := by
  unfold res_main_v78
  pointwise

/-! ## The taps -/

theorem tapSum (P : FVec Ideal S2x384x226x226 .f32) (W : FVec Ideal S96x384x3x3 .f32) (T : ℕ → ℕ → Fin 384 → EReal)
    (U : Fin 3 → Fin 3 → Fin 384 → EReal) (b : Fin 2) (o : Fin 96) (hP : ∀ c (h w : Fin 226), P (ix4 b c h w) = T h.val w.val c)
    (hW : ∀ c y x, W (ix4 o c y x) = U y x c) (y x : Fin 3) (p q : Fin 226) (r s : ℕ) (hr : p.val = r) (hs : q.val = s) :
    ∑ c, P (ix4 b c p q) * W (ix4 o c y x) = ∑ c, U y x c * T r s c := by
  subst hr hs
  exact Finset.sum_congr rfl fun c _ => by rw [hP, hW, mul_comm]

theorem tap00 (P : FVec Ideal S2x384x226x226 .f32) (W : FVec Ideal S96x384x3x3 .f32) (T : ℕ → ℕ → Fin 384 → EReal)
    (U : Fin 3 → Fin 3 → Fin 384 → EReal) (b : Fin 2) (o : Fin 96) (hP : ∀ c (h w : Fin 226), P (ix4 b c h w) = T h.val w.val c)
    (hW : ∀ c y x, W (ix4 o c y x) = U y x c) (h w : Fin 224) :
    transpose S2x96x224x224 [0, 3, 1, 2] (Host.dotGeneral (F := Ideal) dot_S2x384x224x224_S96x384_S2x224x224x96_1_1_023_0_n_n none (extractStridedSlice S2x384x224x224 ![0, 0, 0, 0] P slices_S2x384x226x226_S2x384x224x224_0_0_0_0) (shapeCast _ (extractStridedSlice S96x384x1x1 ![0, 0, 0, 0] W slices_S96x384x3x3_S96x384x1x1_0_0_0_0) shapeCasts_S96x384x1x1_S96x384)) transposes_S2x224x224x96_S2x96x224x224_0_3_1_2 (ix4 b o h w)
      = ∑ c, U 0 0 c * T (h.val + 0) (w.val + 0) c := by
  pointwise
  exact tapSum P W T U b o hP hW 0 0 _ _ _ _ rfl rfl

theorem tap01 (P : FVec Ideal S2x384x226x226 .f32) (W : FVec Ideal S96x384x3x3 .f32) (T : ℕ → ℕ → Fin 384 → EReal)
    (U : Fin 3 → Fin 3 → Fin 384 → EReal) (b : Fin 2) (o : Fin 96) (hP : ∀ c (h w : Fin 226), P (ix4 b c h w) = T h.val w.val c)
    (hW : ∀ c y x, W (ix4 o c y x) = U y x c) (h w : Fin 224) :
    transpose S2x96x224x224 [0, 3, 1, 2] (Host.dotGeneral (F := Ideal) dot_S2x384x224x224_S96x384_S2x224x224x96_1_1_023_0_n_n none (extractStridedSlice S2x384x224x224 ![0, 0, 0, 1] P slices_S2x384x226x226_S2x384x224x224_0_0_0_1) (shapeCast _ (extractStridedSlice S96x384x1x1 ![0, 0, 0, 1] W slices_S96x384x3x3_S96x384x1x1_0_0_0_1) shapeCasts_S96x384x1x1_S96x384)) transposes_S2x224x224x96_S2x96x224x224_0_3_1_2 (ix4 b o h w)
      = ∑ c, U 0 1 c * T (h.val + 0) (w.val + 1) c := by
  pointwise
  exact tapSum P W T U b o hP hW 0 1 _ _ _ _ rfl (Nat.add_comm _ _)

theorem tap02 (P : FVec Ideal S2x384x226x226 .f32) (W : FVec Ideal S96x384x3x3 .f32) (T : ℕ → ℕ → Fin 384 → EReal)
    (U : Fin 3 → Fin 3 → Fin 384 → EReal) (b : Fin 2) (o : Fin 96) (hP : ∀ c (h w : Fin 226), P (ix4 b c h w) = T h.val w.val c)
    (hW : ∀ c y x, W (ix4 o c y x) = U y x c) (h w : Fin 224) :
    transpose S2x96x224x224 [0, 3, 1, 2] (Host.dotGeneral (F := Ideal) dot_S2x384x224x224_S96x384_S2x224x224x96_1_1_023_0_n_n none (extractStridedSlice S2x384x224x224 ![0, 0, 0, 2] P slices_S2x384x226x226_S2x384x224x224_0_0_0_2) (shapeCast _ (extractStridedSlice S96x384x1x1 ![0, 0, 0, 2] W slices_S96x384x3x3_S96x384x1x1_0_0_0_2) shapeCasts_S96x384x1x1_S96x384)) transposes_S2x224x224x96_S2x96x224x224_0_3_1_2 (ix4 b o h w)
      = ∑ c, U 0 2 c * T (h.val + 0) (w.val + 2) c := by
  pointwise
  exact tapSum P W T U b o hP hW 0 2 _ _ _ _ rfl (Nat.add_comm _ _)

theorem tap10 (P : FVec Ideal S2x384x226x226 .f32) (W : FVec Ideal S96x384x3x3 .f32) (T : ℕ → ℕ → Fin 384 → EReal)
    (U : Fin 3 → Fin 3 → Fin 384 → EReal) (b : Fin 2) (o : Fin 96) (hP : ∀ c (h w : Fin 226), P (ix4 b c h w) = T h.val w.val c)
    (hW : ∀ c y x, W (ix4 o c y x) = U y x c) (h w : Fin 224) :
    transpose S2x96x224x224 [0, 3, 1, 2] (Host.dotGeneral (F := Ideal) dot_S2x384x224x224_S96x384_S2x224x224x96_1_1_023_0_n_n none (extractStridedSlice S2x384x224x224 ![0, 0, 1, 0] P slices_S2x384x226x226_S2x384x224x224_0_0_1_0) (shapeCast _ (extractStridedSlice S96x384x1x1 ![0, 0, 1, 0] W slices_S96x384x3x3_S96x384x1x1_0_0_1_0) shapeCasts_S96x384x1x1_S96x384)) transposes_S2x224x224x96_S2x96x224x224_0_3_1_2 (ix4 b o h w)
      = ∑ c, U 1 0 c * T (h.val + 1) (w.val + 0) c := by
  pointwise
  exact tapSum P W T U b o hP hW 1 0 _ _ _ _ (Nat.add_comm _ _) rfl

theorem tap11 (P : FVec Ideal S2x384x226x226 .f32) (W : FVec Ideal S96x384x3x3 .f32) (T : ℕ → ℕ → Fin 384 → EReal)
    (U : Fin 3 → Fin 3 → Fin 384 → EReal) (b : Fin 2) (o : Fin 96) (hP : ∀ c (h w : Fin 226), P (ix4 b c h w) = T h.val w.val c)
    (hW : ∀ c y x, W (ix4 o c y x) = U y x c) (h w : Fin 224) :
    transpose S2x96x224x224 [0, 3, 1, 2] (Host.dotGeneral (F := Ideal) dot_S2x384x224x224_S96x384_S2x224x224x96_1_1_023_0_n_n none (extractStridedSlice S2x384x224x224 ![0, 0, 1, 1] P slices_S2x384x226x226_S2x384x224x224_0_0_1_1) (shapeCast _ (extractStridedSlice S96x384x1x1 ![0, 0, 1, 1] W slices_S96x384x3x3_S96x384x1x1_0_0_1_1) shapeCasts_S96x384x1x1_S96x384)) transposes_S2x224x224x96_S2x96x224x224_0_3_1_2 (ix4 b o h w)
      = ∑ c, U 1 1 c * T (h.val + 1) (w.val + 1) c := by
  pointwise
  exact tapSum P W T U b o hP hW 1 1 _ _ _ _ (Nat.add_comm _ _) (Nat.add_comm _ _)

theorem tap12 (P : FVec Ideal S2x384x226x226 .f32) (W : FVec Ideal S96x384x3x3 .f32) (T : ℕ → ℕ → Fin 384 → EReal)
    (U : Fin 3 → Fin 3 → Fin 384 → EReal) (b : Fin 2) (o : Fin 96) (hP : ∀ c (h w : Fin 226), P (ix4 b c h w) = T h.val w.val c)
    (hW : ∀ c y x, W (ix4 o c y x) = U y x c) (h w : Fin 224) :
    transpose S2x96x224x224 [0, 3, 1, 2] (Host.dotGeneral (F := Ideal) dot_S2x384x224x224_S96x384_S2x224x224x96_1_1_023_0_n_n none (extractStridedSlice S2x384x224x224 ![0, 0, 1, 2] P slices_S2x384x226x226_S2x384x224x224_0_0_1_2) (shapeCast _ (extractStridedSlice S96x384x1x1 ![0, 0, 1, 2] W slices_S96x384x3x3_S96x384x1x1_0_0_1_2) shapeCasts_S96x384x1x1_S96x384)) transposes_S2x224x224x96_S2x96x224x224_0_3_1_2 (ix4 b o h w)
      = ∑ c, U 1 2 c * T (h.val + 1) (w.val + 2) c := by
  pointwise
  exact tapSum P W T U b o hP hW 1 2 _ _ _ _ (Nat.add_comm _ _) (Nat.add_comm _ _)

theorem tap20 (P : FVec Ideal S2x384x226x226 .f32) (W : FVec Ideal S96x384x3x3 .f32) (T : ℕ → ℕ → Fin 384 → EReal)
    (U : Fin 3 → Fin 3 → Fin 384 → EReal) (b : Fin 2) (o : Fin 96) (hP : ∀ c (h w : Fin 226), P (ix4 b c h w) = T h.val w.val c)
    (hW : ∀ c y x, W (ix4 o c y x) = U y x c) (h w : Fin 224) :
    transpose S2x96x224x224 [0, 3, 1, 2] (Host.dotGeneral (F := Ideal) dot_S2x384x224x224_S96x384_S2x224x224x96_1_1_023_0_n_n none (extractStridedSlice S2x384x224x224 ![0, 0, 2, 0] P slices_S2x384x226x226_S2x384x224x224_0_0_2_0) (shapeCast _ (extractStridedSlice S96x384x1x1 ![0, 0, 2, 0] W slices_S96x384x3x3_S96x384x1x1_0_0_2_0) shapeCasts_S96x384x1x1_S96x384)) transposes_S2x224x224x96_S2x96x224x224_0_3_1_2 (ix4 b o h w)
      = ∑ c, U 2 0 c * T (h.val + 2) (w.val + 0) c := by
  pointwise
  exact tapSum P W T U b o hP hW 2 0 _ _ _ _ (Nat.add_comm _ _) rfl

theorem tap21 (P : FVec Ideal S2x384x226x226 .f32) (W : FVec Ideal S96x384x3x3 .f32) (T : ℕ → ℕ → Fin 384 → EReal)
    (U : Fin 3 → Fin 3 → Fin 384 → EReal) (b : Fin 2) (o : Fin 96) (hP : ∀ c (h w : Fin 226), P (ix4 b c h w) = T h.val w.val c)
    (hW : ∀ c y x, W (ix4 o c y x) = U y x c) (h w : Fin 224) :
    transpose S2x96x224x224 [0, 3, 1, 2] (Host.dotGeneral (F := Ideal) dot_S2x384x224x224_S96x384_S2x224x224x96_1_1_023_0_n_n none (extractStridedSlice S2x384x224x224 ![0, 0, 2, 1] P slices_S2x384x226x226_S2x384x224x224_0_0_2_1) (shapeCast _ (extractStridedSlice S96x384x1x1 ![0, 0, 2, 1] W slices_S96x384x3x3_S96x384x1x1_0_0_2_1) shapeCasts_S96x384x1x1_S96x384)) transposes_S2x224x224x96_S2x96x224x224_0_3_1_2 (ix4 b o h w)
      = ∑ c, U 2 1 c * T (h.val + 2) (w.val + 1) c := by
  pointwise
  exact tapSum P W T U b o hP hW 2 1 _ _ _ _ (Nat.add_comm _ _) (Nat.add_comm _ _)

theorem tap22 (P : FVec Ideal S2x384x226x226 .f32) (W : FVec Ideal S96x384x3x3 .f32) (T : ℕ → ℕ → Fin 384 → EReal)
    (U : Fin 3 → Fin 3 → Fin 384 → EReal) (b : Fin 2) (o : Fin 96) (hP : ∀ c (h w : Fin 226), P (ix4 b c h w) = T h.val w.val c)
    (hW : ∀ c y x, W (ix4 o c y x) = U y x c) (h w : Fin 224) :
    transpose S2x96x224x224 [0, 3, 1, 2] (Host.dotGeneral (F := Ideal) dot_S2x384x224x224_S96x384_S2x224x224x96_1_1_023_0_n_n none (extractStridedSlice S2x384x224x224 ![0, 0, 2, 2] P slices_S2x384x226x226_S2x384x224x224_0_0_2_2) (shapeCast _ (extractStridedSlice S96x384x1x1 ![0, 0, 2, 2] W slices_S96x384x3x3_S96x384x1x1_0_0_2_2) shapeCasts_S96x384x1x1_S96x384)) transposes_S2x224x224x96_S2x96x224x224_0_3_1_2 (ix4 b o h w)
      = ∑ c, U 2 2 c * T (h.val + 2) (w.val + 2) c := by
  pointwise
  exact tapSum P W T U b o hP hW 2 2 _ _ _ _ (Nat.add_comm _ _) (Nat.add_comm _ _)

theorem addTerm (z a0 a1 a2 a3 a4 a5 a6 a7 a8 : FVec Ideal S2x96x224x224 .f32) (j : S2x96x224x224.Idx)
    (x0 x1 x2 x3 x4 x5 x6 x7 x8 : EReal) (hz : z j = 0) (h0 : a0 j = x0) (h1 : a1 j = x1) (h2 : a2 j = x2) (h3 : a3 j = x3)
    (h4 : a4 j = x4) (h5 : a5 j = x5) (h6 : a6 j = x6) (h7 : a7 j = x7) (h8 : a8 j = x8) :
    addf (addf (addf (addf (addf (addf (addf (addf (addf z a0) a1) a2) a3) a4) a5) a6) a7) a8 j
      = x0 + x1 + x2 + x3 + x4 + x5 + x6 + x7 + x8 := by
  subst h0 h1 h2 h3 h4 h5 h6 h7 h8
  show z j + a0 j + a1 j + a2 j + a3 j + a4 j + a5 j + a6 j + a7 j + a8 j = _
  rw [hz, zero_add]

theorem conv_at (hf : Tame (co2 (beta V)) (co3 (beta V))) (b : Fin 2) (o : Fin 96) (h w : Fin 224) :
    (res_main_v134 V : FVec Ideal S2x96x224x224 .f32) (ix4 b o h w)
      = conv (fun y x c => taps V (ix5 0 o c y x)) (img (co2 (beta V)) (co3 (beta V)) (flat (RefGate.img V) b)) h.val w.val := by
  have hP := fun c h w => pad_at V hf b c h w
  have hW := fun c y x => wt_at V o c y x
  have z : (broadcastInDim S2x96x224x224 ![] bcast_S_S2x96x224x224 (constant (F := Ideal) S_ .f32 0x00000000#32)) (ix4 b o h w) = (0 : EReal) := by pointwise
  unfold conv res_main_v134
  exact addTerm _ _ _ _ _ _ _ _ _ _ _ _ _ _ _ _ _ _ _ _ z
    (tap00 (res_main_v79 V) (res_main_v78 V) _ _ b o hP hW h w)
    (tap01 (res_main_v79 V) (res_main_v78 V) _ _ b o hP hW h w)
    (tap02 (res_main_v79 V) (res_main_v78 V) _ _ b o hP hW h w)
    (tap10 (res_main_v79 V) (res_main_v78 V) _ _ b o hP hW h w)
    (tap11 (res_main_v79 V) (res_main_v78 V) _ _ b o hP hW h w)
    (tap12 (res_main_v79 V) (res_main_v78 V) _ _ b o hP hW h w)
    (tap20 (res_main_v79 V) (res_main_v78 V) _ _ b o hP hW h w)
    (tap21 (res_main_v79 V) (res_main_v78 V) _ _ b o hP hW h w)
    (tap22 (res_main_v79 V) (res_main_v78 V) _ _ b o hP hW h w)

/-- The reference's first result, as it is printed. -/
theorem out_at (hf : Tame (co2 (beta V)) (co3 (beta V))) (b : Fin 2) (o : Fin 96) (h w : Fin 224) :
    (mulf (res_main_v134 V) (broadcastInDim S2x96x224x224 ![0, 1, 2, 3] bcast_S2x1x1x1_S2x96x224x224_0_1_2_3 (broadcastInDim S2x1x1x1 ![0] bcast_S2_S2x1x1x1_0 (Host.reduceAdd (res_main_v40 V) (constant S_ .f32 0x00000000#32) reducesTo_S2x8_S2_d1 h_S_))) : FVec Ideal S2x96x224x224 .f32) (ix4 b o h w)
      = conv (fun y x c => taps V (ix5 0 o c y x)) (img (co2 (beta V)) (co3 (beta V)) (flat (RefGate.img V) b)) h.val w.val
        * ∑ e, Route.gates (RefGate.prob V b) e := by
  have key : ∀ (a : FVec Ideal S2x96x224x224 .f32) (s : FVec Ideal S2 .f32),
      mulf a (broadcastInDim S2x96x224x224 ![0, 1, 2, 3] bcast_S2x1x1x1_S2x96x224x224_0_1_2_3 (broadcastInDim S2x1x1x1 ![0] bcast_S2_S2x1x1x1_0 s)) (ix4 b o h w)
        = a (ix4 b o h w) * s (ix1 b) := fun a s => by pointwise
  rw [← conv_at V hf, ← RefGate.scale_at V b]
  exact key _ _

end Cert.Proof.RefConv
end
-- ==== Proof.Equal.lean ====
module

public import proofs.«01_k».proof.Proof.Run
public import proofs.«01_k».proof.Proof.RefConv
public import proofs.«01_k».proof.Defs

@[expose] public section

set_option maxRecDepth 16384
set_option synthInstance.maxSize 4096

noncomputable section

/- The results of the two programs are the same functions of the arguments. -/
namespace Cert.Proof.Equal

open Idealize.ShloMosaic Idealize.ShloMosaic.TcCoe Idealize.SL.Sem
open Cert.KernelIdeal Cert.KernelIdeal.Gen
open Cert.Proof.Basis (img conv)
open Cert.Proof.RefConv (co2 co3 flat)

variable (x : FVec Ideal S2x96x224x224 .f32) (w : FVec Ideal S1x96x384x3x3 .f32) (β : FVec Ideal S4 .f32)
  (g : FVec Ideal S96x8 .f32)

/-! ## The gate's inputs -/

theorem rowCast (b : Fin 2) (c : Fin 96) (r : FVec Ideal S192x1 .f32) :
    shapeCast S2x96 r shapeCasts_S192x1_S2x96 (ix2 b c) = r (ix2 ⟨b.val * 96 + c.val, by omega⟩ 0) := by
  pointwise

theorem flatCast (b : Fin 2) (c : Fin 96) (p : Fin 50176) :
    shapeCast S192x50176 x shapeCasts_S2x96x224x224_S192x50176 (ix2 ⟨b.val * 96 + c.val, by omega⟩ p) = flat x b c p := by
  unfold flat
  pointwise

theorem sums_at (b : Fin 2) (c : Fin 96) : Run.sumsOf x (ix2 b c) = ∑ h : Fin 224, ∑ q : Fin 224, x (ix4 b c h q) := by
  unfold Run.sumsOf
  rw [rowCast]
  unfold Sums.rowSum
  refine Eq.trans (Finset.sum_congr rfl fun p _ => flatCast x b c p) (Eq.symm ?_)
  refine Fin.sum_mul_add_congr fun h q hl => ?_
  unfold flat
  refine congrArg₂ (fun p q => x (ix4 b c p q)) (Fin.ext ?_) (Fin.ext ?_)
  · show h.val = (h.val * 224 + q.val) / 224
    omega
  · show q.val = (h.val * 224 + q.val) % 224
    omega

/-- The mean by a product with the named constant is the mean by a division. -/
theorem logits_eq (b : Fin 2) : Gate.logits (Run.sumsOf x) g b = RefGate.logits x g b := by
  funext e
  unfold Gate.logits RefGate.logits
  refine Finset.sum_congr rfl fun c _ => ?_
  rw [sums_at, Consts.npix, Ideal.div_coe (by norm_num), IdealRules.named_const.ideal_named_scalar _ _ _ _ rfl]

/-! ## The loss -/

theorem loss_eq : Run.lossVal x g = fun _ => Route.loss fun b e => Route.gates (Route.probs (RefGate.logits x g b)) e := by
  funext j
  unfold Run.lossVal Gate.lossOf
  simp only [logits_eq]
  rfl

/-! ## The convolution -/

theorem coef2_at : Run.coefs β (ix2 0 0) = co2 β := by
  unfold Run.coefs co2
  pointwise
theorem coef3_at : Run.coefs β (ix2 0 1) = co3 β := by
  unfold Run.coefs co3
  pointwise

theorem wts_at (y z : Fin 3) (o : Fin 96) (c : Fin 384) : Run.wts w (ix4 y z o c) = w (ix5 0 o c y z) := by
  unfold Run.wts
  pointwise

theorem image_at (b : Fin 2) (ch : Fin 96) (p : Fin 50176) :
    shapeCast S2x96x50176 x shapeCasts_S2x96x224x224_S2x96x50176 (ix3 b ch p) = flat x b ch p := by
  unfold flat
  pointwise

theorem outCast (r : FVec Ideal S2x96x50176 .f32) (b : Fin 2) (o : Fin 96) (h q : Fin 224) :
    shapeCast S2x96x224x224 r shapeCasts_S2x96x50176_S2x96x224x224 (ix4 b o h q)
      = r (ix3 b o ⟨h.val * 224 + q.val, by omega⟩) := by
  pointwise

theorem out_at (b : Fin 2) (o : Fin 96) (h q : Fin 224) :
    Run.out x w β g (ix4 b o h q)
      = conv (fun y z c => w (ix5 0 o c y z)) (img (co2 β) (co3 β) (flat x b)) h.val q.val
        * ∑ e, Route.gates (Route.probs (RefGate.logits x g b)) e := by
  unfold Run.out
  rw [outCast]
  show conv (fun ky kx c => Run.wts w (ix4 ky kx o c))
      (img (Run.coefs β (ix2 0 0)) (Run.coefs β (ix2 0 1)) (fun ch p => shapeCast S2x96x50176 x shapeCasts_S2x96x224x224_S2x96x50176 (ix3 b ch p)))
      ((h.val * 224 + q.val) / 224) ((h.val * 224 + q.val) % 224)
      * (∑ e, Route.gates (Route.probs (Gate.logits (Run.sumsOf x) g b)) e) = _
  rw [coef2_at, coef3_at, logits_eq, show (h.val * 224 + q.val) / 224 = h.val by omega, show (h.val * 224 + q.val) % 224 = q.val by omega]
  simp only [wts_at, image_at]

/-! ## The precondition -/

theorem real_of_lt (a : EReal) (h : max a (-a) < ⊤) : ∃ r : ℝ, a = r := by
  induction a with
  | coe r => exact ⟨r, rfl⟩
  | top => simp at h
  | bot => simp at h

theorem coef_real (k a : EReal) (hk : ∃ r : ℝ, 0 < r ∧ k = r) (ha : ∃ r : ℝ, a = r) : ∃ r : ℝ, k * a = r := by
  obtain ⟨r, -, rfl⟩ := hk
  obtain ⟨s, rfl⟩ := ha
  exact ⟨r * s, (EReal.coe_mul r s).symm⟩

theorem coef_infinite (k l a : EReal) (hk : ∃ r : ℝ, 0 < r ∧ k = r) (hl : ∃ r : ℝ, 0 < r ∧ l = r) (h : ¬ max a (-a) < ⊤) :
    k * a = l * a := by
  obtain ⟨k, hk, rfl⟩ := hk
  obtain ⟨l, hl, rfl⟩ := hl
  induction a with
  | coe r => exact absurd (max_lt (EReal.coe_lt_top r) (EReal.coe_lt_top (-r))) h
  | top => rw [EReal.coe_mul_top_of_pos hk, EReal.coe_mul_top_of_pos hl]
  | bot => rw [EReal.coe_mul_bot_of_pos hk, EReal.coe_mul_bot_of_pos hl]

theorem pre_facts : Cert.Pre_a_betas_not_opposite_infinities.Facts := ⟨by decide, by decide, by decide⟩

theorem tame_of_pre (hp : Cert.Pre_a_betas_not_opposite_infinities.Facts)
    (h : Cert.Pre_a_betas_not_opposite_infinities.fn (F := Ideal) x w β g = fun _ => 1#1) :
    RefConv.Tame (co2 β) (co3 β) := by
  have h0 := congrFun h ix0
  unfold Cert.Pre_a_betas_not_opposite_infinities.fn at h0
  pointwise at h0
  rw [Consts.pos_inf] at h0
  by_cases h2 : FloatOps.absf (F := Ideal) (φ := .f32) (β (ix1 1)) < ⊤
  · exact .inl (coef_real _ _ Consts.coef2 (real_of_lt _ h2))
  by_cases h3 : FloatOps.absf (F := Ideal) (φ := .f32) (β (ix1 2)) < ⊤
  · exact .inr (.inl (coef_real _ _ Consts.coef3 (real_of_lt _ h3)))
  by_cases h4 : β (ix1 1) = β (ix1 2)
  · refine .inr (.inr ?_)
    unfold co2 co3
    rw [← h4]
    exact coef_infinite _ _ _ Consts.coef2 Consts.coef3 h2
  exfalso
  rw [decide_eq_false h2, decide_eq_false h3, decide_eq_false h4] at h0
  exact absurd h0 (by decide)

end Cert.Proof.Equal

namespace Cert.Proof.Equal

open Idealize.ShloMosaic Idealize.ShloMosaic.TcCoe Idealize.SL.Sem
open Cert.ReferenceIdeal Cert.ReferenceIdeal.Gen Cert.ReferenceIdeal.Value
open Cert.Proof.RefConv (co2 co3)

variable (V : Valuation τ sig (Elt Ideal)) (x : FVec Ideal S2x96x224x224 .f32) (w : FVec Ideal S1x96x384x3x3 .f32)
  (β : FVec Ideal S4 .f32) (g : FVec Ideal S96x8 .f32)

/-- The reference's first result, as its run states it, is the kernel's. -/
theorem out_eq (e0 : RefGate.img V = x) (e1 : RefConv.taps V = w) (e2 : RefConv.beta V = β) (e3 : RefGate.gate V = g)
    (hf : RefConv.Tame (co2 β) (co3 β)) :
    mulf (res_main_v134 V) (broadcastInDim S2x96x224x224 ![0, 1, 2, 3] bcast_S2x1x1x1_S2x96x224x224_0_1_2_3 (broadcastInDim S2x1x1x1 ![0] bcast_S2_S2x1x1x1_0 (Host.reduceAdd (res_main_v40 V) (constant S_ .f32 0x00000000#32) reducesTo_S2x8_S2_d1 h_S_)))
      = Run.out x w β g := by
  subst e0 e1 e2 e3
  refine funext fun j : S2x96x224x224.Idx => ?_
  idx_vars j
  exact (RefConv.out_at V hf j0 j1 j2 j3).trans (out_at _ _ _ _ j0 j1 j2 j3).symm

/-- So is the second. -/
theorem loss_of (e0 : RefGate.img V = x) (e3 : RefGate.gate V = g) :
    mulf (addf (Host.divf (select (cmpf .ogt (res_main_call0_v8 V) (constant S_ .f32 0x00000000#32)) (Host.divf (Host.reduceAdd (mulf (res_main_call0_v5 V) (res_main_call0_v5 V)) (constant S_ .f32 0x00000000#32) reducesTo_S8_S_d0 h_S_) (res_main_call0_v8 V)) (id (constant S_ .f32 0x7FC00000#32))) (addf (mulf (res_main_v48 V) (res_main_v48 V)) (constant S_ .f32 0x2EDBE6FF#32))) (Host.divf (select (cmpf .ogt (res_main_call1_v8 V) (constant S_ .f32 0x00000000#32)) (Host.divf (Host.reduceAdd (mulf (res_main_call1_v5 V) (res_main_call1_v5 V)) (constant S_ .f32 0x00000000#32) reducesTo_S8_S_d0 h_S_) (res_main_call1_v8 V)) (id (constant S_ .f32 0x7FC00000#32))) (addf (mulf (res_main_v54 V) (res_main_v54 V)) (constant S_ .f32 0x2EDBE6FF#32)))) (constant S_ .f32 0x3C23D70A#32)
      = Run.lossVal x g := by
  subst e0 e3
  exact (RefGate.loss_at V).trans (loss_eq _ _).symm

end Cert.Proof.Equal
end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Equal
public import Idealize.ShloMosaic.Adequacy
public import Idealize.ShloMosaic.Init
public import Idealize.ShloMosaic.Lib.Quiescent

@[expose] public section

noncomputable section

namespace Cert.Proof

open Idealize.ShloMosaic Idealize.SL.Sem Cert.Kernel

/-- The kernel as printed runs to its end and leaves its arguments alone. -/
theorem frame_p : Cert.quiescent_Kernel := fun m ρ _ => Cert.Kernel.Gen.frame m ρ

/-- So does its idealization. -/
theorem frame_pi : Cert.quiescent_KernelIdeal := fun m ρ _ => Cert.KernelIdeal.Gen.frame m ρ

/-- So does the reference: its run is generated, and it has no semaphore. -/
theorem frame_ri : Cert.quiescent_ReferenceIdeal := fun m ρ _ =>
  (θ_run Cert.ReferenceIdeal.defs _ _).mono (fun r h => ⟨fun c => (h c).2.2,
      Idealize.ShloMosaic.sem_eq_zero_of_no_sems (by decide) r.2⟩)
    (Cert.ReferenceIdeal.Value.run (F := Ideal) m ρ)

/-- The one named constant, `1 / 50176`. -/
theorem preserves : Cert.preserves_Kernel_KernelIdeal :=
  IdealRules.named_const.statement Cert.KernelIdeal.κ "inv_npix" .f32 0x37A72F05#32 ((1 / 50176 : ℝ) : EReal) rfl

/-- The frames again, under the precondition. -/
theorem frame_pi_pre [Cert.Pre_a_betas_not_opposite_infinities.Facts] : Cert.quiescent_KernelIdeal_pre_a_betas_not_opposite_infinities :=
  fun m ρ _ => Cert.KernelIdeal.Gen.frame m ρ
theorem frame_ri_pre [Cert.Pre_a_betas_not_opposite_infinities.Facts] : Cert.quiescent_ReferenceIdeal_pre_a_betas_not_opposite_infinities :=
  fun m ρ _ => frame_ri m ρ trivial

/-- The two results of the kernel are those of the reference. -/
theorem results [hp : Cert.Pre_a_betas_not_opposite_infinities.Facts] : Cert.algebraic_KernelIdeal_ReferenceIdeal_pre_a_betas_not_opposite_infinities := by
  intro m ρ m' ρ' hpre hargs
  refine ⟨fun c => Run.out (Run.arg0 m c) (Run.arg1 m c) (Run.arg2 m c) (Run.arg3 m c),
    fun c => Run.lossVal (Run.arg0 m c) (Run.arg3 m c), Run.run m ρ, ?_⟩
  refine (θ_run Cert.ReferenceIdeal.defs _ _).mono (fun r h c => ?_) (Cert.ReferenceIdeal.Value.run (F := Ideal) m' ρ')
  obtain ⟨h0, h1, ha⟩ := h c
  obtain ⟨a0, a1, a2, a3⟩ := hargs c
  have e0 : RefGate.img (StableHlo.launchContents m' c) = Run.arg0 m c := a0
  have e1 : RefConv.taps (StableHlo.launchContents m' c) = Run.arg1 m c := a1
  have e2 : RefConv.beta (StableHlo.launchContents m' c) = Run.arg2 m c := a2
  have e3 : RefGate.gate (StableHlo.launchContents m' c) = Run.arg3 m c := a3
  have hf := Equal.tame_of_pre (Run.arg0 m c) (Run.arg1 m c) (Run.arg2 m c) (Run.arg3 m c) hp (hpre c)
  refine ⟨h0.trans ?_, h1.trans ?_, ha⟩
  · exact Equal.out_eq (StableHlo.launchContents m' c) _ _ _ _ e0 e1 e2 e3 hf
  · exact Equal.loss_of (StableHlo.launchContents m' c) _ _ e0 e3

theorem claim : Cert.Claim :=
  ⟨Cert.Kernel.Gen.facts, Cert.KernelIdeal.Gen.facts, Cert.ReferenceIdeal.Gen.facts, Equal.pre_facts,
    frame_p, frame_pi, @frame_pi_pre Equal.pre_facts, frame_ri, @frame_ri_pre Equal.pre_facts, preserves, @results Equal.pre_facts⟩

end Cert.Proof

end
